-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![4096]⟩ (Layout.meshBlock [2, 2, 4] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 1024, 2048]⟩ ⟨3, ![8, 1024, 2048]⟩ (Layout.meshBlock [2, 2, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 2048, 1024]⟩ ⟨3, ![8, 2048, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨2, ![1024, 1024]⟩ ⟨2, ![4096, 1024]⟩ (Layout.meshBlock [2, 2, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v113) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024x2048 : Shape := ⟨3, ![2, 1024, 2048]⟩
abbrev S2x2048x1024 : Shape := ⟨3, ![2, 2048, 1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S1024x1152 : Shape := ⟨2, ![1024, 1152]⟩
abbrev S4x1024x1152 : Shape := ⟨3, ![4, 1024, 1152]⟩
abbrev S2x1024x1024 : Shape := ⟨3, ![2, 1024, 1024]⟩
abbrev S3x1024x1024 : Shape := ⟨3, ![3, 1024, 1024]⟩
abbrev S3 : Shape := ⟨1, ![3]⟩
abbrev S_ : Shape := ⟨0, ![]⟩
abbrev S1x1024x1152 : Shape := ⟨3, ![1, 1024, 1152]⟩
abbrev S1 : Shape := ⟨1, ![1]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1024x1024 : Shape := ⟨3, ![1, 1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1024x1024, .bf16⟩
  | .hbm, ⟨1, _⟩ => ⟨S1024, .i32⟩
  | .hbm, ⟨2, _⟩ => ⟨S2x1024x2048, .bf16⟩
  | .hbm, ⟨3, _⟩ => ⟨S2x2048x1024, .bf16⟩
  | .hbm, ⟨4, _⟩ => ⟨S1024x1, .i32⟩
  | .hbm, ⟨5, _⟩ => ⟨S128, .i32⟩
  | .hbm, ⟨6, _⟩ => ⟨S1x128, .i32⟩
  | .hbm, ⟨7, _⟩ => ⟨S1024x128, .i32⟩
  | .hbm, ⟨8, _⟩ => ⟨S1024x128, .i32⟩
  | .hbm, ⟨9, _⟩ => ⟨S1024x128, .i1⟩
  | .hbm, ⟨10, _⟩ => ⟨S1024x128, .bf16⟩
  | .hbm, ⟨11, _⟩ => ⟨S1024x1152, .bf16⟩
  | .hbm, ⟨12, _⟩ => ⟨S1024x1024, .f32⟩
  | .local _ .vmem, ⟨0, _⟩ => ⟨S1024x1152, .bf16⟩
  | .local _ .vmem, ⟨1, _⟩ => ⟨S2x1024x2048, .bf16⟩
  | .local _ .vmem, ⟨2, _⟩ => ⟨S2x2048x1024, .bf16⟩
  | .local _ .vmem, ⟨3, _⟩ => ⟨S1024x1024, .f32⟩
  | .local _ .vmem, ⟨4, _⟩ => ⟨S4x1024x1152, .bf16⟩
  | .local _ .vmem, ⟨5, _⟩ => ⟨S2x1024x1024, .bf16⟩
  | .local _ .vmem, ⟨6, _⟩ => ⟨S3x1024x1024, .bf16⟩
  | .local _ .vmem, ⟨7, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v15 : BitVec 32 := Scalar.muli v2 c8_i32_8
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_9 : BitVec 32 := 4#32
  let v17 : BitVec 32 := Scalar.muli v5 c4_i32_9
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_10 : BitVec 32 := 1#32
  let v19 : BitVec 32 := Scalar.muli v11 c1_i32_10
  let v20 : BitVec 32 := Scalar.addi v18 v19
  v20.toNat
def k0_dev2 (d0 : Dev nD) : Nat :=
  let c0_i32_13 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v21 : BitVec 32 := Scalar.muli v2 c8_i32_12
  let v22 : BitVec 32 := Scalar.addi c0_i32_13 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v23 : BitVec 32 := Scalar.muli v5 c4_i32_14
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_15 : BitVec 32 := 1#32
  let v25 : BitVec 32 := Scalar.muli v13 c1_i32_15
  let v26 : BitVec 32 := Scalar.addi v24 v25
  v26.toNat
def k0_dev3 (d0 : Dev nD) : Nat :=
  let c0_i32_26 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_25 : BitVec 32 := 8#32
  let v33 : BitVec 32 := Scalar.muli v2 c8_i32_25
  let v34 : BitVec 32 := Scalar.addi c0_i32_26 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_27 : BitVec 32 := 4#32
  let v35 : BitVec 32 := Scalar.muli v5 c4_i32_27
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_28 : BitVec 32 := 1#32
  let v37 : BitVec 32 := Scalar.muli v13 c1_i32_28
  let v38 : BitVec 32 := Scalar.addi v36 v37
  v38.toNat
def k0_dev4 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v127 : BitVec 32 := Scalar.muli v2 c8_i32_101
  let v128 : BitVec 32 := Scalar.addi c0_i32_102 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_103 : BitVec 32 := 4#32
  let v129 : BitVec 32 := Scalar.muli v5 c4_i32_103
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_104 : BitVec 32 := 1#32
  let v131 : BitVec 32 := Scalar.muli v13 c1_i32_104
  let v132 : BitVec 32 := Scalar.addi v130 v131
  v132.toNat
def k0_dev5 (d0 : Dev nD) : Nat :=
  let c0_i32_232 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_231 : BitVec 32 := 8#32
  let v294 : BitVec 32 := Scalar.muli v2 c8_i32_231
  let v295 : BitVec 32 := Scalar.addi c0_i32_232 v294
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_233 : BitVec 32 := 4#32
  let v296 : BitVec 32 := Scalar.muli v5 c4_i32_233
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_234 : BitVec 32 := 1#32
  let v298 : BitVec 32 := Scalar.muli v13 c1_i32_234
  let v299 : BitVec 32 := Scalar.addi v297 v298
  v299.toNat
def k0_dev6 (d0 : Dev nD) : Nat :=
  let c0_i32_255 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_254 : BitVec 32 := 8#32
  let v320 : BitVec 32 := Scalar.muli v2 c8_i32_254
  let v321 : BitVec 32 := Scalar.addi c0_i32_255 v320
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_256 : BitVec 32 := 4#32
  let v322 : BitVec 32 := Scalar.muli v5 c4_i32_256
  let v323 : BitVec 32 := Scalar.addi v321 v322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_257 : BitVec 32 := 1#32
  let v324 : BitVec 32 := Scalar.muli v13 c1_i32_257
  let v325 : BitVec 32 := Scalar.addi v323 v324
  v325.toNat
def k0_dev7 (d0 : Dev nD) : Nat :=
  let c0_i32_400 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_399 : BitVec 32 := 8#32
  let v503 : BitVec 32 := Scalar.muli v2 c8_i32_399
  let v504 : BitVec 32 := Scalar.addi c0_i32_400 v503
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_401 : BitVec 32 := 4#32
  let v505 : BitVec 32 := Scalar.muli v5 c4_i32_401
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_402 : BitVec 32 := 1#32
  let v507 : BitVec 32 := Scalar.muli v13 c1_i32_402
  let v508 : BitVec 32 := Scalar.addi v506 v507
  v508.toNat
def k0_dev8 (d0 : Dev nD) : Nat :=
  let c0_i32_566 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_565 : BitVec 32 := 8#32
  let v704 : BitVec 32 := Scalar.muli v2 c8_i32_565
  let v705 : BitVec 32 := Scalar.addi c0_i32_566 v704
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_567 : BitVec 32 := 4#32
  let v706 : BitVec 32 := Scalar.muli v5 c4_i32_567
  let v707 : BitVec 32 := Scalar.addi v705 v706
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_568 : BitVec 32 := 1#32
  let v708 : BitVec 32 := Scalar.muli v13 c1_i32_568
  let v709 : BitVec 32 := Scalar.addi v707 v708
  v709.toNat
abbrev stage0_0 : Fin 1 → Memref sig .tc .vmem S1024x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x1024 : Shape := ⟨2, ![4096, 1024]⟩
abbrev S4096 : Shape := ⟨1, ![4096]⟩
abbrev S8x1024x2048 : Shape := ⟨3, ![8, 1024, 2048]⟩
abbrev S8x2048x1024 : Shape := ⟨3, ![8, 2048, 1024]⟩
abbrev S_ : Shape := ⟨0, ![]⟩
abbrev S1x1024x2048 : Shape := ⟨3, ![1, 1024, 2048]⟩
abbrev S1024x2048 : Shape := ⟨2, ![1024, 2048]⟩
abbrev S4096x2048 : Shape := ⟨2, ![4096, 2048]⟩
abbrev S1x2048x1024 : Shape := ⟨3, ![1, 2048, 1024]⟩
abbrev S2048x1024 : Shape := ⟨2, ![2048, 1024]⟩
abbrev S4096x1 : Shape := ⟨2, ![4096, 1]⟩

abbrev nBuf : Space → Nat
  | .hbm => 143
  | .vmem => 0
  | .smem => 0
  | _ => 0

abbrev hbmTy0_0 (i : Nat) : BufTy := match i % 128 with
  | 0 => ⟨S4096x1024, .bf16⟩
  | 1 => ⟨S4096, .i32⟩
  | 2 => ⟨S8x1024x2048, .bf16⟩
  | 3 => ⟨S8x2048x1024, .bf16⟩
  | 4 => ⟨S4096x1024, .f32⟩
  | 5 => ⟨S_, .f32⟩
  | 6 => ⟨S4096x1024, .f32⟩
  | 7 => ⟨S_, .i32⟩
  | 8 => ⟨S4096, .i32⟩
  | 9 => ⟨S4096, .i1⟩
  | 10 => ⟨S1x1024x2048, .bf16⟩
  | 11 => ⟨S1024x2048, .bf16⟩
  | 12 => ⟨S1024x2048, .f32⟩
  | 13 => ⟨S4096x2048, .f32⟩
  | 14 => ⟨S_, .f32⟩
  | 15 => ⟨S4096x2048, .f32⟩
  | 16 => ⟨S4096x2048, .f32⟩
  | 17 => ⟨S1x2048x1024, .bf16⟩
  | 18 => ⟨S2048x1024, .bf16⟩
  | 19 => ⟨S2048x1024, .f32⟩
  | 20 => ⟨S4096x1024, .f32⟩
  | 21 => ⟨S4096x1, .i1⟩
  | 22 => ⟨S4096x1024, .i1⟩
  | 23 => ⟨S4096x1024, .f32⟩
  | 24 => ⟨S_, .i32⟩
  | 25 => ⟨S4096, .i32⟩
  | 26 => ⟨S4096, .i1⟩
  | 27 => ⟨S1x1024x2048, .bf16⟩
  | 28 => ⟨S1024x2048, .bf16⟩
  | 29 => ⟨S1024x2048, .f32⟩
  | 30 => ⟨S4096x2048, .f32⟩
  | 31 => ⟨S_, .f32⟩
  | 32 => ⟨S4096x2048, .f32⟩
  | 33 => ⟨S4096x2048, .f32⟩
  | 34 => ⟨S1x2048x1024, .bf16⟩
  | 35 => ⟨S2048x1024, .bf16⟩
  | 36 => ⟨S2048x1024, .f32⟩
  | 37 => ⟨S4096x1024, .f32⟩
  | 38 => ⟨S4096x1, .i1⟩
  | 39 => ⟨S4096x1024, .i1⟩
  | 40 => ⟨S4096x1024, .f32⟩
  | 41 => ⟨S_, .i32⟩
  | 42 => ⟨S4096, .i32⟩
  | 43 => ⟨S4096, .i1⟩
  | 44 => ⟨S1x1024x2048, .bf16⟩
  | 45 => ⟨S1024x2048, .bf16⟩
  | 46 => ⟨S1024x2048, .f32⟩
  | 47 => ⟨S4096x2048, .f32⟩
  | 48 => ⟨S_, .f32⟩
  | 49 => ⟨S4096x2048, .f32⟩
  | 50 => ⟨S4096x2048, .f32⟩
  | 51 => ⟨S1x2048x1024, .bf16⟩
  | 52 => ⟨S2048x1024, .bf16⟩
  | 53 => ⟨S2048x1024, .f32⟩
  | 54 => ⟨S4096x1024, .f32⟩
  | 55 => ⟨S4096x1, .i1⟩
  | 56 => ⟨S4096x1024, .i1⟩
  | 57 => ⟨S4096x1024, .f32⟩
  | 58 => ⟨S_, .i32⟩
  | 59 => ⟨S4096, .i32⟩
  | 60 => ⟨S4096, .i1⟩
  | 61 => ⟨S1x1024x2048, .bf16⟩
  | 62 => ⟨S1024x2048, .bf16⟩
  | 63 => ⟨S1024x2048, .f32⟩
  | 64 => ⟨S4096x2048, .f32⟩
  | 65 => ⟨S_, .f32⟩
  | 66 => ⟨S4096x2048, .f32⟩
  | 67 => ⟨S4096x2048, .f32⟩
  | 68 => ⟨S1x2048x1024, .bf16⟩
  | 69 => ⟨S2048x1024, .bf16⟩
  | 70 => ⟨S2048x1024, .f32⟩
  | 71 => ⟨S4096x1024, .f32⟩
  | 72 => ⟨S4096x1, .i1⟩
  | 73 => ⟨S4096x1024, .i1⟩
  | 74 => ⟨S4096x1024, .f32⟩
  | 75 => ⟨S_, .i32⟩
  | 76 => ⟨S4096, .i32⟩
  | 77 => ⟨S4096, .i1⟩
  | 78 => ⟨S1x1024x2048, .bf16⟩
  | 79 => ⟨S1024x2048, .bf16⟩
  | 80 => ⟨S1024x2048, .f32⟩
  | 81 => ⟨S4096x2048, .f32⟩
  | 82 => ⟨S_, .f32⟩
  | 83 => ⟨S4096x2048, .f32⟩
  | 84 => ⟨S4096x2048, .f32⟩
  | 85 => ⟨S1x2048x1024, .bf16⟩
  | 86 => ⟨S2048x1024, .bf16⟩
  | 87 => ⟨S2048x1024, .f32⟩
  | 88 => ⟨S4096x1024, .f32⟩
  | 89 => ⟨S4096x1, .i1⟩
  | 90 => ⟨S4096x1024, .i1⟩
  | 91 => ⟨S4096x1024, .f32⟩
  | 92 => ⟨S_, .i32⟩
  | 93 => ⟨S4096, .i32⟩
  | 94 => ⟨S4096, .i1⟩
  | 95 => ⟨S1x1024x2048, .bf16⟩
  | 96 => ⟨S1024x2048, .bf16⟩
  | 97 => ⟨S1024x2048, .f32⟩
  | 98 => ⟨S4096x2048, .f32⟩
  | 99 => ⟨S_, .f32⟩
  | 100 => ⟨S4096x2048, .f32⟩
  | 101 => ⟨S4096x2048, .f32⟩
  | 102 => ⟨S1x2048x1024, .bf16⟩
  | 103 => ⟨S2048x1024, .bf16⟩
  | 104 => ⟨S2048x1024, .f32⟩
  | 105 => ⟨S4096x1024, .f32⟩
  | 106 => ⟨S4096x1, .i1⟩
  | 107 => ⟨S4096x1024, .i1⟩
  | 108 => ⟨S4096x1024, .f32⟩
  | 109 => ⟨S_, .i32⟩
  | 110 => ⟨S4096, .i32⟩
  | 111 => ⟨S4096, .i1⟩
  | 112 => ⟨S1x1024x2048, .bf16⟩
  | 113 => ⟨S1024x2048, .bf16⟩
  | 114 => ⟨S1024x2048, .f32⟩
  | 115 => ⟨S4096x2048, .f32⟩
  | 116 => ⟨S_, .f32⟩
  | 117 => ⟨S4096x2048, .f32⟩
  | 118 => ⟨S4096x2048, .f32⟩
  | 119 => ⟨S1x2048x1024, .bf16⟩
  | 120 => ⟨S2048x1024, .bf16⟩
  | 121 => ⟨S2048x1024, .f32⟩
  | 122 => ⟨S4096x1024, .f32⟩
  | 123 => ⟨S4096x1, .i1⟩
  | 124 => ⟨S4096x1024, .i1⟩
  | 125 => ⟨S4096x1024, .f32⟩
  | 126 => ⟨S_, .i32⟩
  | 127 => ⟨S4096, .i32⟩
  | _ => ⟨S4096x1024, .bf16⟩

abbrev hbmTy0_1 (i : Nat) : BufTy := match i % 128 with
  | 0 => ⟨S4096, .i1⟩
  | 1 => ⟨S1x1024x2048, .bf16⟩
  | 2 => ⟨S1024x2048, .bf16⟩
  | 3 => ⟨S1024x2048, .f32⟩
  | 4 => ⟨S4096x2048, .f32⟩
  | 5 => ⟨S_, .f32⟩
  | 6 => ⟨S4096x2048, .f32⟩
  | 7 => ⟨S4096x2048, .f32⟩
  | 8 => ⟨S1x2048x1024, .bf16⟩
  | 9 => ⟨S2048x1024, .bf16⟩
  | 10 => ⟨S2048x1024, .f32⟩
  | 11 => ⟨S4096x1024, .f32⟩
  | 12 => ⟨S4096x1, .i1⟩
  | 13 => ⟨S4096x1024, .i1⟩
  | 14 => ⟨S4096x1024, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_call2_v0 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call3_v0 : Ref sig .tc := ⟨.hbm, 73, rfl⟩
abbrev main_v57 : Ref sig .tc := ⟨.hbm, 74, rfl⟩
abbrev main_c_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_8 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_call4_v0 : Ref sig .tc := ⟨.hbm, 90, rfl⟩
abbrev main_v71 : Ref sig .tc := ⟨.hbm, 91, rfl⟩
abbrev main_c_9 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_10 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_call5_v0 : Ref sig .tc := ⟨.hbm, 107, rfl⟩
abbrev main_v85 : Ref sig .tc := ⟨.hbm, 108, rfl⟩
abbrev main_c_11 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_call6_v0 : Ref sig .tc := ⟨.hbm, 124, rfl⟩
abbrev main_v99 : Ref sig .tc := ⟨.hbm, 125, rfl⟩
abbrev main_c_13 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_14 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_call7_v0 : Ref sig .tc := ⟨.hbm, 141, rfl⟩
abbrev main_v113 : Ref sig .tc := ⟨.hbm, 142, rfl⟩

abbrev nD : Nat := 1
abbrev τ : Topo := Topo.v7x

variable {F : FTy → Type} [FloatOps F]
-- ==== Proof.Pieces.lean ====
/-
  The kernel body of one device, written again as a sequence of a few pieces: the entry barrier, one
  hop of the chunk ring, one expert's block on one chunk, one hop of the reduction ring, the closing
  waits. `body_eq` says the printed body is this sequence.
-/
module

public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.KernelIdeal.Ring

open Cert.KernelIdeal Cert.KernelIdeal.Gen Idealize.ShloMosaic Idealize.SL.Sem

variable {F : FTy → Type} [FloatOps F]

/-! ## The buffers -/

abbrev slabM : Memref sig .tc .vmem S1024x1152 .bf16 := Memref.whole cc0_stg0_0
abbrev w1M : Memref sig .tc .vmem S2x1024x2048 .bf16 := Memref.whole cc0_stg1_0
abbrev w2M : Memref sig .tc .vmem S2x2048x1024 .bf16 := Memref.whole cc0_stg2_0
abbrev outM : Memref sig .tc .vmem S1024x1024 .f32 := Memref.whole cc0_stg3_0
abbrev xgM : Memref sig .tc .vmem S4x1024x1152 .bf16 := Memref.whole cc0_scratch0
abbrev rsM : Memref sig .tc .vmem S2x1024x1024 .bf16 := Memref.whole cc0_scratch1
abbrev rvM : Memref sig .tc .vmem S3x1024x1024 .bf16 := Memref.whole cc0_scratch2
abbrev paccM : Memref sig .tc .vmem S1024x1024 .f32 := Memref.whole cc0_scratch3

theorem xg_inb (s : Fin 4) : ∀ a, (![s.val, 0, 0] : Fin 3 → Nat) a + S1x1024x1152.size a ≤ S4x1024x1152.size a := by
  revert s; decide
theorem rs_inb (s : Fin 2) : ∀ a, (![s.val, 0, 0] : Fin 3 → Nat) a + S1x1024x1024.size a ≤ S2x1024x1024.size a := by
  revert s; decide
theorem rv_inb (s : Fin 3) : ∀ a, (![s.val, 0, 0] : Fin 3 → Nat) a + S1x1024x1024.size a ≤ S3x1024x1024.size a := by
  revert s; decide
theorem w1_inb (j : Fin 2) (t : Fin 4) : ∀ a, (![j.val, 0, 512 * t.val] : Fin 3 → Nat) a + S1x1024x512.size a ≤ S2x1024x2048.size a := by
  revert j t; decide
theorem w2_inb (j : Fin 2) (t : Fin 4) : ∀ a, (![j.val, 512 * t.val, 0] : Fin 3 → Nat) a + S1x512x1024.size a ≤ S2x2048x1024.size a := by
  revert j t; decide
theorem sem_inb (s : Fin 3) : ∀ a, (![s.val] : Fin 1 → Nat) a + S1.size a ≤ S3.size a := by
  revert s; decide

/-- Slot `s` of the chunk buffer, as a rectangle of it. -/
abbrev xgRect (s : Fin 4) : Rect S4x1024x1152 := Rect.unit (s := S4x1024x1152) ![s.val, 0, 0] S1x1024x1152.size (xg_inb s)
/-- Slot `s` of the partial sums to send. -/
abbrev rsRect (s : Fin 2) : Rect S2x1024x1024 := Rect.unit (s := S2x1024x1024) ![s.val, 0, 0] S1x1024x1024.size (rs_inb s)
/-- Slot `s` of the partial sums received. -/
abbrev rvRect (s : Fin 3) : Rect S3x1024x1024 := Rect.unit (s := S3x1024x1024) ![s.val, 0, 0] S1x1024x1024.size (rv_inb s)
/-- Columns `512 t` to `512 t + 511` of expert `j`'s first weight matrix. -/
abbrev w1Rect (j : Fin 2) (t : Fin 4) : Rect S2x1024x2048 := Rect.unit (s := S2x1024x2048) ![j.val, 0, 512 * t.val] S1x1024x512.size (w1_inb j t)
/-- Rows `512 t` to `512 t + 511` of expert `j`'s second weight matrix. -/
abbrev w2Rect (j : Fin 2) (t : Fin 4) : Rect S2x2048x1024 := Rect.unit (s := S2x2048x1024) ![j.val, 512 * t.val, 0] S1x512x1024.size (w2_inb j t)
abbrev accRect : Rect S1024x1024 := Rect.unit (s := S1024x1024) ![0, 0] S1024x1024.size inb_S1024x1024_S1024x1024_0_0
abbrev slabRect : Rect S1024x1152 := Rect.unit (s := S1024x1152) ![0, 0] S1024x1152.size inb_S1024x1152_S1024x1152_0_0

abbrev xgSlot (s : Fin 4) : Memref sig .tc .vmem S1024x1152 .bf16 :=
  (xgM.slice (xgRect s) (fun _ => rfl)).squeeze S1024x1152 squeezes_S1x1024x1152_S1024x1152
abbrev rsSlot (s : Fin 2) : Memref sig .tc .vmem S1024x1024 .bf16 :=
  (rsM.slice (rsRect s) (fun _ => rfl)).squeeze S1024x1024 squeezes_S1x1024x1024_S1024x1024
abbrev rvSlot (s : Fin 3) : Memref sig .tc .vmem S1024x1024 .bf16 :=
  (rvM.slice (rvRect s) (fun _ => rfl)).squeeze S1024x1024 squeezes_S1x1024x1024_S1024x1024

/-- The four arrays of copy semaphores: chunk ring sent and received, reduction ring sent and received. -/
abbrev agS (s : Fin 3) : DmaSem sig := ((cc0_scratch4.slice (Rect.unit (s := S3) ![s.val] S1.size (sem_inb s))).squeeze S_ squeezes_S1_S_).sem
abbrev agR (s : Fin 3) : DmaSem sig := ((cc0_scratch5.slice (Rect.unit (s := S3) ![s.val] S1.size (sem_inb s))).squeeze S_ squeezes_S1_S_).sem
abbrev rsS (s : Fin 3) : DmaSem sig := ((cc0_scratch6.slice (Rect.unit (s := S3) ![s.val] S1.size (sem_inb s))).squeeze S_ squeezes_S1_S_).sem
abbrev rsR (s : Fin 3) : DmaSem sig := ((cc0_scratch7.slice (Rect.unit (s := S3) ![s.val] S1.size (sem_inb s))).squeeze S_ squeezes_S1_S_).sem
abbrev barS : Sem sig := (SemArray.scalar (sig.barrier 0 rfl) : Sems sig S_).sem

theorem xg_words (s : Fin 4) : (xgRect s).WholeWords (EltTy.packing .bf16) :=
  match s with
  | 0 => wordsbf16_S4x1024x1152_S1x1024x1152_0_0_0
  | 1 => wordsbf16_S4x1024x1152_S1x1024x1152_1_0_0
  | 2 => wordsbf16_S4x1024x1152_S1x1024x1152_2_0_0
  | 3 => wordsbf16_S4x1024x1152_S1x1024x1152_3_0_0
theorem rs_words (s : Fin 2) : (rsRect s).WholeWords (EltTy.packing .bf16) :=
  match s with
  | 0 => wordsbf16_S2x1024x1024_S1x1024x1024_0_0_0
  | 1 => wordsbf16_S2x1024x1024_S1x1024x1024_1_0_0
theorem rv_words (s : Fin 3) : (rvRect s).WholeWords (EltTy.packing .bf16) :=
  match s with
  | 0 => wordsbf16_S3x1024x1024_S1x1024x1024_0_0_0
  | 1 => wordsbf16_S3x1024x1024_S1x1024x1024_1_0_0
  | 2 => wordsbf16_S3x1024x1024_S1x1024x1024_2_0_0
theorem rs_packed (s : Fin 2) : (rsRect s).PackedRows (EltTy.packing .bf16) :=
  match s with
  | 0 => packedbf16_S2x1024x1024_S1x1024x1024_0_0_0
  | 1 => packedbf16_S2x1024x1024_S1x1024x1024_1_0_0

theorem xg_exact (s : Fin 4) : (xgSlot s).view.WordExact :=
  ((Memref.isWhole_whole cc0_scratch0).wordExact_slice rfl _ (xg_words s)).reshape _ _
theorem rs_exact (s : Fin 2) : (rsSlot s).view.WordExact :=
  ((Memref.isWhole_whole cc0_scratch1).wordExact_slice rfl _ (rs_words s)).reshape _ _
theorem rv_exact (s : Fin 3) : (rvSlot s).view.WordExact :=
  ((Memref.isWhole_whole cc0_scratch2).wordExact_slice rfl _ (rv_words s)).reshape _ _

/-! ## What the pieces compute -/

/-- A device's place along the ring, as a word. -/
def zWord (d : Dev nD) : BitVec 32 := Scalar.remsi (Scalar.divsi (Dev.word d) 1#32) 4#32

/-- The rows of a chunk routed to expert `2 z + j`, the others zero: the chunk times the routing
    matrix's column. -/
def masked (z j : BitVec 32) (X : Vec F S1x1024x1152 .bf16) : FVec F S1024x1024 .bf16 :=
  mulf (extractStridedSlice S1024x1024 ![0, 0] (shapeCast S1024x1152 X shapeCasts_S1x1024x1152_S1024x1152 : FVec F S1024x1152 .bf16) slices_S1024x1152_o0_0_S1024x1024)
    (broadcastTo S1024x1024
      (truncf .bf16
        (shapeCast S1024x1
          (multiReduction .add [1] S1024
            (extf .f32
              (mulf (extractStridedSlice S1024x128 ![0, 1024] (shapeCast S1024x1152 X shapeCasts_S1x1024x1152_S1024x1152 : FVec F S1024x1152 .bf16) slices_S1024x1152_o0_1024_S1024x128)
                (broadcastTo S1024x128
                  (truncf .bf16 (sitofp .f32 (extui 32 (cmpi .eq (iota .tc S1x128 32 [1] iota_S1x128_d1_w32) (broadcast S1x128 (Scalar.addi (Scalar.muli 2#32 z) j))) natLt_1_32) : FVec F S1x128 .f32) bitsLt_bf16_f32)
                  broadcasts_S1x128_S1024x128)) bitsLt_bf16_f32)
            0x00000000#32 reduces_S1024x128_S1024 (.inl rfl) rfl) shapeCasts_S1024_S1024x1 : FVec F S1024x1 .f32) bitsLt_bf16_f32)
      broadcasts_S1024x1_S1024x1024)

/-- One quarter of an expert's block: 512 hidden columns. -/
def tile (xm : FVec F S1024x1024 .bf16) (a : Vec F S1x1024x512 .bf16) (b : Vec F S1x512x1024 .bf16) : FVec F S1024x1024 .f32 :=
  matmul dot_S1024x512_S512x1024_S1024x1024_1_0_0_1_n_n none
    (truncf .bf16
      (maximumf
        (matmul dot_S1024x1024_S1024x512_S1024x512_1_0_0_1_n_n none xm
          (shapeCast S1024x512 a shapeCasts_S1x1024x512_S1024x512 : FVec F S1024x512 .bf16) (constant S1024x512 .f32 0x00000000#32))
        (broadcast S1024x512 (Scalar.ofBits .f32 0x00000000#32 : F .f32))) bitsLt_bf16_f32)
    (shapeCast S512x1024 b shapeCasts_S1x512x1024_S512x1024 : FVec F S512x1024 .bf16) (constant S1024x1024 .f32 0x00000000#32)

/-- A same-shape reshape, as the printed text writes it around the accumulator. -/
def recast (v : FVec F S1024x1024 .f32) : FVec F S1024x1024 .f32 := shapeCast S1024x1024 v shapeCasts_S1024x1024_S1024x1024

/-- A slab laid down as one slot. -/
def slabOf (v : Vec F S1024x1152 .bf16) : FVec F S1x1024x1152 .bf16 :=
  shapeCast S1x1024x1152 (shapeCast S1024x1152 v shapeCasts_S1024x1152_S1024x1152 : FVec F S1024x1152 .bf16) shapeCasts_S1024x1152_S1x1024x1152

/-- A partial sum rounded for the wire. -/
def wire (p : FVec F S1024x1024 .f32) : FVec F S1x1024x1024 .bf16 :=
  shapeCast S1x1024x1024 (truncf .bf16 p bitsLt_bf16_f32 : FVec F S1024x1024 .bf16) shapeCasts_S1024x1024_S1x1024x1024

/-- A received partial sum, widened. -/
def unwire (r : Vec F S1x1024x1024 .bf16) : FVec F S1024x1024 .f32 :=
  extf .f32 (shapeCast S1024x1024 r shapeCasts_S1x1024x1024_S1024x1024 : FVec F S1024x1024 .bf16) bitsLt_bf16_f32

/-! ## The pieces -/

/-- The type of the kernel's programs. -/
abbrev KP (F : FTy → Type) [FloatOps F] (α : Type) := Prog (TpuEff nD τ sig (Elt F) Λ₀ .tc) α

def loadAcc (acc : Memref sig .tc .vmem S1024x1024 .f32) : KP F (Vec F S1024x1024 .f32) :=
  Prog.lift (.load acc accRect.toLoadRect (View.loadsAt_vmem h_S1024x1024))
def storeAcc (acc : Memref sig .tc .vmem S1024x1024 .f32) (v : FVec F S1024x1024 .f32) : KP F PUnit :=
  Prog.lift (.store acc accRect v Finset.univ (View.stores_vmem_bits_univ h_S1024x1024 rfl) (.inl rfl))
def loadW1 (j : Fin 2) (t : Fin 4) : KP F (Vec F S1x1024x512 .bf16) :=
  Prog.lift (.load w1M (w1Rect j t).toLoadRect (View.loadsAt_vmem h_S1x1024x512))
def loadW2 (j : Fin 2) (t : Fin 4) : KP F (Vec F S1x512x1024 .bf16) :=
  Prog.lift (.load w2M (w2Rect j t).toLoadRect (View.loadsAt_vmem h_S1x512x1024))
def loadXg (s : Fin 4) : KP F (Vec F S1x1024x1152 .bf16) :=
  Prog.lift (.load xgM (xgRect s).toLoadRect (View.loadsAt_vmem h_S1x1024x1152))
def loadRs (s : Fin 2) : KP F (Vec F S1x1024x1024 .bf16) :=
  Prog.lift (.load rsM (rsRect s).toLoadRect (View.loadsAt_vmem h_S1x1024x1024))
def loadRv (s : Fin 3) : KP F (Vec F S1x1024x1024 .bf16) :=
  Prog.lift (.load rvM (rvRect s).toLoadRect (View.loadsAt_vmem h_S1x1024x1024))
def storeXg0 (v : FVec F S1x1024x1152 .bf16) : KP F PUnit :=
  Prog.lift (.store xgM (xgRect 0) v Finset.univ (View.stores_vmem h_S1x1024x1152 ((Memref.isWhole_whole cc0_scratch0).storeExact_slice rfl _ packedbf16_S4x1024x1152_S1x1024x1152_0_0_0) (fun _ => rfl)) (.inl rfl))
def storeRs (s : Fin 2) (v : FVec F S1x1024x1024 .bf16) : KP F PUnit :=
  Prog.lift (.store rsM (rsRect s) v Finset.univ (View.stores_vmem h_S1x1024x1024 ((Memref.isWhole_whole cc0_scratch1).storeExact_slice rfl _ (rs_packed s)) (fun _ => rfl)) (.inl rfl))

/-- The first quarter of an expert's block, stored. -/
def tileFirst (acc : Memref sig .tc .vmem S1024x1024 .f32) (st : FVec F S1024x1024 .f32 → FVec F S1024x1024 .f32)
    (xm : FVec F S1024x1024 .bf16) (j : Fin 2) (t : Fin 4) : KP F PUnit := do
  let a ← loadW1 j t
  let b ← loadW2 j t
  let _ ← loadAcc acc
  storeAcc acc (st (tile xm a b))

/-- A later quarter, added to what is stored. -/
def tileNext (acc : Memref sig .tc .vmem S1024x1024 .f32) (ld st : FVec F S1024x1024 .f32 → FVec F S1024x1024 .f32)
    (xm : FVec F S1024x1024 .bf16) (j : Fin 2) (t : Fin 4) : KP F PUnit := do
  let a ← loadW1 j t
  let b ← loadW2 j t
  let o ← loadAcc acc
  let _ ← loadAcc acc
  storeAcc acc (st (addf (ld o) (tile xm a b)))

/-- Local expert `j`'s block on the chunk in slot `s`, overwriting the accumulator. -/
def expertFirst (acc : Memref sig .tc .vmem S1024x1024 .f32) (ld st : FVec F S1024x1024 .f32 → FVec F S1024x1024 .f32)
    (z : BitVec 32) (s : Fin 4) (j : Fin 2) : KP F PUnit := do
  let X ← loadXg s
  tileFirst acc st (masked z (BitVec.ofNat 32 j.val) X) j 0
  tileNext acc ld st (masked z (BitVec.ofNat 32 j.val) X) j 1
  tileNext acc ld st (masked z (BitVec.ofNat 32 j.val) X) j 2
  tileNext acc ld st (masked z (BitVec.ofNat 32 j.val) X) j 3

/-- Local expert `j`'s block on the chunk in slot `s`, added to the accumulator. -/
def expertNext (acc : Memref sig .tc .vmem S1024x1024 .f32) (ld st : FVec F S1024x1024 .f32 → FVec F S1024x1024 .f32)
    (z : BitVec 32) (s : Fin 4) (j : Fin 2) : KP F PUnit := do
  let X ← loadXg s
  tileNext acc ld st (masked z (BitVec.ofNat 32 j.val) X) j 0
  tileNext acc ld st (masked z (BitVec.ofNat 32 j.val) X) j 1
  tileNext acc ld st (masked z (BitVec.ofNat 32 j.val) X) j 2
  tileNext acc ld st (masked z (BitVec.ofNat 32 j.val) X) j 3

/-- The entry barrier: a signal to each neighbour, then both neighbours' signals awaited. -/
def barrierP (l r : Dev nD) : KP F PUnit := do
  semSignalWord l barS 1#32
  semSignalWord r barS 1#32
  semWaitWord barS 2#32

/-- The device's own chunk laid into slot 0. -/
def storeSlab : KP F PUnit := do
  let v ← Prog.lift (.load slabM slabRect.toLoadRect (View.loadsAt_vmem h_S1024x1152))
  let _ ← loadXg 0
  storeXg0 (slabOf v)

/-- Hop `s` of the chunk ring: slot `s` to the right neighbour's slot `s + 1`. -/
def sendAg (s : Fin 3) (r : Dev nD) : KP F PUnit :=
  Prog.lift (.enqueueDma (xgSlot s.castSucc) (.remote (Dev.tc r) (xgSlot s.succ) (.dma (agS s))) (.dma (agR s)) (xg_exact _) (xg_exact _) ⟨⟨rfl, Or.inl rfl⟩, trivial⟩)
def recvAg (s : Fin 3) : KP F PUnit := Prog.lift (.waitDma2 (agR s) (xgSlot s.castSucc) (xgSlot s.succ) (xg_exact _) (xg_exact _))
def doneAg (s : Fin 3) : KP F PUnit := Prog.lift (.waitDma2 (agS s) (xgSlot s.succ) (xgSlot s.castSucc) (xg_exact _) (xg_exact _))

/-- The slot of the send buffer hop `s` of the reduction ring uses. -/
abbrev par (s : Fin 3) : Fin 2 := ⟨s.val % 2, Nat.mod_lt _ (by decide)⟩

/-- Hop `s` of the reduction ring. -/
def sendRs (s : Fin 3) (r : Dev nD) : KP F PUnit :=
  Prog.lift (.enqueueDma (rsSlot (par s)) (.remote (Dev.tc r) (rvSlot s) (.dma (rsS s))) (.dma (rsR s)) (rs_exact _) (rv_exact _) ⟨⟨rfl, Or.inl rfl⟩, trivial⟩)
def recvRs (s : Fin 3) : KP F PUnit := Prog.lift (.waitDma2 (rsR s) (rsSlot (par s)) (rvSlot s) (rs_exact _) (rv_exact _))
def doneRs (s : Fin 3) : KP F PUnit := Prog.lift (.waitDma2 (rsS s) (rvSlot s) (rsSlot (par s)) (rv_exact _) (rs_exact _))

/-- Both local experts on the chunk just received, into the partial accumulator. -/
def experts (z : BitVec 32) (s : Fin 4) : KP F PUnit := do
  expertFirst paccM (fun v => v) recast z s 0
  expertNext paccM (fun v => v) recast z s 1

/-- The whole body of device `d`. -/
def ringBody (d : Dev nD) : KP F PUnit := do
  barrierP ⟨k0_dev1 d, k0_dev1_lt d⟩ ⟨k0_dev2 d, k0_dev2_lt d⟩
  storeSlab
  sendAg 0 ⟨k0_dev3 d, k0_dev3_lt d⟩
  expertFirst outM recast (fun v => v) (zWord d) 0 0
  recvAg 0
  sendAg 1 ⟨k0_dev4 d, k0_dev4_lt d⟩
  experts (zWord d) 1
  let p ← loadAcc paccM
  let _ ← loadRs 0
  storeRs 0 (wire p)
  sendRs 0 ⟨k0_dev5 d, k0_dev5_lt d⟩
  recvAg 1
  sendAg 2 ⟨k0_dev6 d, k0_dev6_lt d⟩
  experts (zWord d) 2
  recvRs 0
  let p ← loadAcc paccM
  let q ← loadRv 0
  let _ ← loadRs 1
  storeRs 1 (wire (addf p (unwire q)))
  sendRs 1 ⟨k0_dev7 d, k0_dev7_lt d⟩
  recvAg 2
  experts (zWord d) 3
  recvRs 1
  let p ← loadAcc paccM
  let q ← loadRv 1
  doneRs 0
  let _ ← loadRs 0
  storeRs 0 (wire (addf p (unwire q)))
  sendRs 2 ⟨k0_dev8 d, k0_dev8_lt d⟩
  expertNext outM recast (fun v => v) (zWord d) 0 1
  recvRs 2
  let p ← loadAcc outM
  let q ← loadRv 2
  let _ ← loadAcc outM
  storeAcc outM (addf (recast p) (unwire q))
  doneAg 0
  doneAg 1
  doneAg 2
  doneRs 1
  doneRs 2

/-- The device's index, then the body. -/
def ringProg : KP F PUnit := do
  let d ← Prog.lift .deviceId
  ringBody d

set_option maxRecDepth 65536 in
set_option maxHeartbeats 4000000 in
/-- The printed body is the pieces in sequence: by unfolding. -/
theorem body_eq (t : Fin cfg0.N) : bodyAt0 (F := F) t = ringProg := by
  rfl

end Cert.KernelIdeal.Ring

end
-- ==== Proof.Slots.lean ====
/-
  The slots of the three communication buffers: each buffer of `n` slots is a stack of `n` blocks. What
  a slot holds is written as a block laid into every slot, so that the same block can be named in the
  slot it is sent from and in the slot it lands in.
-/
module

public import proofs.«01_k».proof.Proof.Pieces

@[expose] public section

set_option maxRecDepth 16384

noncomputable section

namespace Cert.KernelIdeal.Ring

open Cert.KernelIdeal Cert.KernelIdeal.Gen Idealize.ShloMosaic Idealize.SL.Sem

variable {F : FTy → Type} [FloatOps F]

/-- The index within its slot of an index of a stack of slots. -/
def inSlot {n a b : Nat} (i : Shape.Idx ⟨3, ![n, a, b]⟩) : Shape.Idx ⟨3, ![1, a, b]⟩
  | ⟨0, _⟩ => (0 : Fin 1)
  | ⟨1, _⟩ => (i 1 : Fin a)
  | ⟨2, _⟩ => (i 2 : Fin b)

/-- The block `X` laid into every slot of a stack. -/
def lay {α : Type} {n a b : Nat} (X : Shape.Idx ⟨3, ![1, a, b]⟩ → α) : Shape.Idx ⟨3, ![n, a, b]⟩ → α := fun i => X (inSlot i)

/-- Slot `s` of a stack places an index of the block at that index of slot `s`. -/
theorem inSlot_idx {n a b s : Nat} (h : ∀ x, (![s, 0, 0] : Fin 3 → Nat) x + (![1, a, b] : Fin 3 → Nat) x ≤ (⟨3, ![n, a, b]⟩ : Shape).size x)
    (j : Shape.Idx ⟨3, ![1, a, b]⟩) :
    inSlot ((Rect.unit (s := ⟨3, ![n, a, b]⟩) ![s, 0, 0] ![1, a, b] h).emb j) = j := by
  funext x
  match x with
  | ⟨0, _⟩ => exact Subsingleton.elim (α := Fin 1) _ _
  | ⟨1, _⟩ => exact Fin.ext (by show 0 + 1 * (j 1).val = (j 1).val; omega)
  | ⟨2, _⟩ => exact Fin.ext (by show 0 + 1 * (j 2).val = (j 2).val; omega)

/-- Different slots share no element. -/
theorem slots_disjoint {n a b s t : Nat} (hs : ∀ x, (![s, 0, 0] : Fin 3 → Nat) x + (![1, a, b] : Fin 3 → Nat) x ≤ (⟨3, ![n, a, b]⟩ : Shape).size x)
    (ht : ∀ x, (![t, 0, 0] : Fin 3 → Nat) x + (![1, a, b] : Fin 3 → Nat) x ≤ (⟨3, ![n, a, b]⟩ : Shape).size x) (h : s ≠ t) :
    Disjoint (Rect.unit (s := ⟨3, ![n, a, b]⟩) ![s, 0, 0] ![1, a, b] hs).set (Rect.unit (s := ⟨3, ![n, a, b]⟩) ![t, 0, 0] ![1, a, b] ht).set :=
  Rect.disjoint_of_axis _ _ (0 : Fin 3) fun j₁ h₁ j₂ h₂ => by
    have h₁' : j₁ < 1 := h₁
    have h₂' : j₂ < 1 := h₂
    show s + 1 * j₁ ≠ t + 1 * j₂
    omega

/-- An index whose first coordinate is `s` lies in slot `s`. -/
theorem mem_slot {n a b s : Nat} (h : ∀ x, (![s, 0, 0] : Fin 3 → Nat) x + (![1, a, b] : Fin 3 → Nat) x ≤ (⟨3, ![n, a, b]⟩ : Shape).size x)
    (i : Shape.Idx ⟨3, ![n, a, b]⟩) (hi : (i 0).val = s) : i ∈ (Rect.unit (s := ⟨3, ![n, a, b]⟩) ![s, 0, 0] ![1, a, b] h).set := by
  refine (LoadRect.mem_set _).mpr fun x => ?_
  match x with
  | ⟨0, _⟩ => exact ⟨0, (by show (0 : ℕ) < 1; omega), by show (i 0).val = s + 1 * 0; omega⟩
  | ⟨1, _⟩ => exact ⟨(i 1).val, (i 1).isLt, by show (i 1).val = 0 + 1 * (i 1).val; omega⟩
  | ⟨2, _⟩ => exact ⟨(i 2).val, (i 2).isLt, by show (i 2).val = 0 + 1 * (i 2).val; omega⟩

/-! ## The element sets -/

abbrev xgSet (s : Fin 4) : Finset S4x1024x1152.Idx := (xgRect s).set
abbrev rsSet (s : Fin 2) : Finset S2x1024x1024.Idx := (rsRect s).set
abbrev rvSet (s : Fin 3) : Finset S3x1024x1024.Idx := (rvRect s).set

theorem xg_disjoint : ∀ s ∈ (Finset.univ : Finset (Fin 4)), ∀ t ∈ (Finset.univ : Finset (Fin 4)), s ≠ t → Disjoint (xgSet s) (xgSet t) :=
  fun s _ t _ h => slots_disjoint (xg_inb s) (xg_inb t) fun e => h (Fin.ext e)
theorem rs_disjoint : ∀ s ∈ (Finset.univ : Finset (Fin 2)), ∀ t ∈ (Finset.univ : Finset (Fin 2)), s ≠ t → Disjoint (rsSet s) (rsSet t) :=
  fun s _ t _ h => slots_disjoint (rs_inb s) (rs_inb t) fun e => h (Fin.ext e)
theorem rv_disjoint : ∀ s ∈ (Finset.univ : Finset (Fin 3)), ∀ t ∈ (Finset.univ : Finset (Fin 3)), s ≠ t → Disjoint (rvSet s) (rvSet t) :=
  fun s _ t _ h => slots_disjoint (rv_inb s) (rv_inb t) fun e => h (Fin.ext e)

theorem xg_cover : (Finset.univ : Finset (Fin 4)).biUnion xgSet = Finset.univ :=
  Finset.eq_univ_iff_forall.mpr fun i => Finset.mem_biUnion.mpr ⟨i 0, Finset.mem_univ _, mem_slot (xg_inb (i 0)) i rfl⟩
theorem rs_cover : (Finset.univ : Finset (Fin 2)).biUnion rsSet = Finset.univ :=
  Finset.eq_univ_iff_forall.mpr fun i => Finset.mem_biUnion.mpr ⟨i 0, Finset.mem_univ _, mem_slot (rs_inb (i 0)) i rfl⟩
theorem rv_cover : (Finset.univ : Finset (Fin 3)).biUnion rvSet = Finset.univ :=
  Finset.eq_univ_iff_forall.mpr fun i => Finset.mem_biUnion.mpr ⟨i 0, Finset.mem_univ _, mem_slot (rv_inb (i 0)) i rfl⟩

theorem xgSlot_set (s : Fin 4) : (xgSlot s).view.set = xgSet s :=
  (View.set_reshape _ _).trans (View.set_slice_whole cc0_scratch0 (xgRect s))
theorem rsSlot_set (s : Fin 2) : (rsSlot s).view.set = rsSet s :=
  (View.set_reshape _ _).trans (View.set_slice_whole cc0_scratch1 (rsRect s))
theorem rvSlot_set (s : Fin 3) : (rvSlot s).view.set = rvSet s :=
  (View.set_reshape _ _).trans (View.set_slice_whole cc0_scratch2 (rvRect s))

theorem xgAcc_set (s : Fin 4) : (xgM.access (xgRect s)).set = xgSet s := View.set_slice_whole cc0_scratch0 (xgRect s)
theorem rsAcc_set (s : Fin 2) : (rsM.access (rsRect s)).set = rsSet s := View.set_slice_whole cc0_scratch1 (rsRect s)
theorem rvAcc_set (s : Fin 3) : (rvM.access (rvRect s)).set = rvSet s := View.set_slice_whole cc0_scratch2 (rvRect s)

/-! ## Contents -/

/-- Contents of the chunk buffer whose every slot is `X`; likewise of the other two. -/
def xgBuf (X : Vec F S1x1024x1152 .bf16) : cc0_scratch0.ty.Contents (Elt F) := (lay X : S4x1024x1152.Idx → Elt F .bf16)
def rsBuf (X : Vec F S1x1024x1024 .bf16) : cc0_scratch1.ty.Contents (Elt F) := (lay X : S2x1024x1024.Idx → Elt F .bf16)
def rvBuf (X : Vec F S1x1024x1024 .bf16) : cc0_scratch2.ty.Contents (Elt F) := (lay X : S3x1024x1024.Idx → Elt F .bf16)

/-- A slot laid with `X` is read as `X`. -/
theorem xg_read (s : Fin 4) (X : Vec F S1x1024x1152 .bf16) : (xgM.access (xgRect s)).read (Elt F) (xgBuf X) = X :=
  funext fun j => congrArg X (inSlot_idx (xg_inb s) j)
theorem rs_read (s : Fin 2) (X : Vec F S1x1024x1024 .bf16) : (rsM.access (rsRect s)).read (Elt F) (rsBuf X) = X :=
  funext fun j => congrArg X (inSlot_idx (rs_inb s) j)
theorem rv_read (s : Fin 3) (X : Vec F S1x1024x1024 .bf16) : (rvM.access (rvRect s)).read (Elt F) (rvBuf X) = X :=
  funext fun j => congrArg X (inSlot_idx (rv_inb s) j)

/-- A slot written with `X` is, on its elements, laid with `X`. -/
theorem xg_write (s : Fin 4) (f : cc0_scratch0.ty.Contents (Elt F)) (X : Vec F S1x1024x1152 .bf16) :
    ∀ i ∈ xgSet s, (xgM.access (xgRect s)).write (Elt F) f X Finset.univ i = xgBuf X i := fun i hi => by
  obtain ⟨j, rfl⟩ := LoadRect.exists_idx_of_mem _ hi
  refine (View.write_emb_of_mem (v := xgM.access (xgRect s)) f X (Finset.mem_univ j)).trans ?_
  exact congrArg X (inSlot_idx (xg_inb s) j).symm
theorem rs_write (s : Fin 2) (f : cc0_scratch1.ty.Contents (Elt F)) (X : Vec F S1x1024x1024 .bf16) :
    ∀ i ∈ rsSet s, (rsM.access (rsRect s)).write (Elt F) f X Finset.univ i = rsBuf X i := fun i hi => by
  obtain ⟨j, rfl⟩ := LoadRect.exists_idx_of_mem _ hi
  refine (View.write_emb_of_mem (v := rsM.access (rsRect s)) f X (Finset.mem_univ j)).trans ?_
  exact congrArg X (inSlot_idx (rs_inb s) j).symm

/-- One slot of the chunk buffer copied onto another carries the block along. -/
theorem xg_copy (s t : Fin 4) (f : cc0_scratch0.ty.Contents (Elt F)) (X : Vec F S1x1024x1152 .bf16) :
    ∀ i ∈ xgSet t, (xgSlot t).view.write (Elt F) f ((xgSlot s).view.read (Elt F) (xgBuf X)) Finset.univ i = xgBuf X i := fun i hi => by
  rw [← xgSlot_set] at hi
  obtain ⟨j, -, rfl⟩ := Finset.mem_map.mp hi
  refine (View.write_emb_of_mem (v := (xgSlot t).view) f _ (Finset.mem_univ j)).trans ?_
  exact (congrArg X (inSlot_idx (xg_inb s) _)).trans (congrArg X (inSlot_idx (xg_inb t) _)).symm
/-- A slot of the sums to send, copied onto a slot of the sums received, carries the block along. -/
theorem rv_copy (s : Fin 2) (t : Fin 3) (f : cc0_scratch2.ty.Contents (Elt F)) (X : Vec F S1x1024x1024 .bf16) :
    ∀ i ∈ rvSet t, (rvSlot t).view.write (Elt F) f ((rsSlot s).view.read (Elt F) (rsBuf X)) Finset.univ i = rvBuf X i := fun i hi => by
  rw [← rvSlot_set] at hi
  obtain ⟨j, -, rfl⟩ := Finset.mem_map.mp hi
  refine (View.write_emb_of_mem (v := (rvSlot t).view) f _ (Finset.mem_univ j)).trans ?_
  exact (congrArg X (inSlot_idx (rs_inb s) _)).trans (congrArg X (inSlot_idx (rv_inb t) _)).symm

end Cert.KernelIdeal.Ring

end
-- ==== Proof.Protocol.lean ====
/-
  The agreement between the devices: the ring, what each copy carries, which semaphore pays for what, in
  which order a device pays, and why no wait can be circular.
-/
module

public import proofs.«01_k».proof.Proof.Slots
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.StableHlo
public import Idealize.ShloMosaic.Lib.Tactic

@[expose] public section

set_option maxRecDepth 16384

noncomputable section

namespace Cert.KernelIdeal.Ring

open Cert.KernelIdeal Cert.KernelIdeal.Gen Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device after `c` along the ring: the same place on the first two axes of the mesh. -/
def nxt (c : Dev nD) : Dev nD := ⟨8 * (c.val / 8) + 4 * ((c.val / 4) % 2) + ((c.val % 4) + 1) % 4, by have := c.isLt; simp only [nD] at *; omega⟩
/-- The device before `c` along the ring. -/
def prv (c : Dev nD) : Dev nD := ⟨8 * (c.val / 8) + 4 * ((c.val / 4) % 2) + ((c.val % 4) + 3) % 4, by have := c.isLt; simp only [nD] at *; omega⟩

theorem prv_nxt (c : Dev nD) : prv (nxt c) = c := by revert c; decide
theorem nxt_prv (c : Dev nD) : nxt (prv c) = c := by revert c; decide
/-- The ring, as a permutation of the devices. -/
def ring : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)
theorem dev6_eq (c : Dev nD) : (⟨k0_dev6 c, k0_dev6_lt c⟩ : Dev nD) = nxt c := Fin.ext (k0_dev6_eq c)
theorem dev7_eq (c : Dev nD) : (⟨k0_dev7 c, k0_dev7_lt c⟩ : Dev nD) = nxt c := Fin.ext (k0_dev7_eq c)
theorem dev8_eq (c : Dev nD) : (⟨k0_dev8 c, k0_dev8_lt c⟩ : Dev nD) = nxt c := Fin.ext (k0_dev8_eq c)

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The semaphores -/

/-- What a semaphore is for. -/
inductive Use where
  | bar
  | agS (s : Fin 3)
  | agR (s : Fin 3)
  | rsS (s : Fin 3)
  | rsR (s : Fin 3)
  | other
  deriving DecidableEq

/-- The use of each semaphore. -/
def useOf : SemLoc sig → Use
  | .reg i => if i = barS then .bar else .other
  | .dma i =>
    if h : i.val < 4 then .other
    else if h : i.val < 7 then .agS ⟨i.val - 4, by omega⟩
    else if h : i.val < 10 then .agR ⟨i.val - 7, by omega⟩
    else if h : i.val < 13 then .rsS ⟨i.val - 10, by omega⟩
    else if h : i.val < 16 then .rsR ⟨i.val - 13, by omega⟩
    else .other

theorem use_bar : useOf (.reg barS) = .bar := by decide
theorem use_agS (s : Fin 3) : useOf (.dma (agS s)) = .agS s := by revert s; decide
theorem use_agR (s : Fin 3) : useOf (.dma (agR s)) = .agR s := by revert s; decide
theorem use_rsS (s : Fin 3) : useOf (.dma (rsS s)) = .rsS s := by revert s; decide
theorem use_rsR (s : Fin 3) : useOf (.dma (rsR s)) = .rsR s := by revert s; decide

abbrev barCell (c : Dev nD) : GSem nD τ sig := ((c : Thread nD τ), .reg barS)
abbrev agSCell (c : Dev nD) (s : Fin 3) : GSem nD τ sig := ((c : Thread nD τ), .dma (agS s))
abbrev agRCell (c : Dev nD) (s : Fin 3) : GSem nD τ sig := ((c : Thread nD τ), .dma (agR s))
abbrev rsSCell (c : Dev nD) (s : Fin 3) : GSem nD τ sig := ((c : Thread nD τ), .dma (rsS s))
abbrev rsRCell (c : Dev nD) (s : Fin 3) : GSem nD τ sig := ((c : Thread nD τ), .dma (rsR s))

/-- What a copy of one chunk, and of one partial sum, credits. -/
def N₁ : ℕ := (xgSlot 0).view.dmaCredit
def N₂ : ℕ := (rvSlot 0).view.dmaCredit
theorem N₁_pos : 0 < N₁ := View.dmaCredit_pos _ (by decide)
theorem N₂_pos : 0 < N₂ := View.dmaCredit_pos _ (by decide)
theorem xg_credit (s : Fin 4) : (xgSlot s).view.dmaCredit = N₁ := rfl
theorem rs_credit (s : Fin 2) : (rsSlot s).view.dmaCredit = N₂ := rfl
theorem rv_credit (s : Fin 3) : (rvSlot s).view.dmaCredit = N₂ := rfl

/-! ## What is held -/

/-- Slot `s` of device `c`'s chunk buffer at a share, at some contents of the buffer; at the block `X`. -/
def xgRaw (c : Dev nD) (s : Fin 4) (q : PosShare TreeShare) (f : cc0_scratch0.ty.Contents (Elt F)) : sProp 𝕄 :=
  ((c : Thread nD τ).loc cc0_scratch0) ↦[xgSet s]{q} f
def rsRaw (c : Dev nD) (s : Fin 2) (f : cc0_scratch1.ty.Contents (Elt F)) : sProp 𝕄 :=
  ((c : Thread nD τ).loc cc0_scratch1) ↦[rsSet s]{fullShare} f
def rvRaw (c : Dev nD) (s : Fin 3) (f : cc0_scratch2.ty.Contents (Elt F)) : sProp 𝕄 :=
  ((c : Thread nD τ).loc cc0_scratch2) ↦[rvSet s]{fullShare} f
abbrev xgPt (c : Dev nD) (s : Fin 4) (q : PosShare TreeShare) (X : Vec F S1x1024x1152 .bf16) : sProp 𝕄 := xgRaw c s q (xgBuf X)
abbrev rsPt (c : Dev nD) (s : Fin 2) (X : Vec F S1x1024x1024 .bf16) : sProp 𝕄 := rsRaw c s (rsBuf X)
abbrev rvPt (c : Dev nD) (s : Fin 3) (X : Vec F S1x1024x1024 .bf16) : sProp 𝕄 := rvRaw c s (rvBuf X)

/-- The halves of the full share: one lent to a copy in flight, one kept to load with. -/
abbrev lentQ : PosShare TreeShare := PosShare.left fullShare
abbrev keptQ : PosShare TreeShare := PosShare.right fullShare

/-- What the devices send: each device's own chunk, and the partial sum it sends at each hop. -/
structure Sent (F : FTy → Type) where
  own : Dev nD → Vec F S1x1024x1152 .bf16
  part : Fin 3 → Dev nD → Vec F S1x1024x1024 .bf16

variable (Sn : Sent F)

/-- The chunk in slot `s` of device `c`: that of the device `s` places back. -/
def chunk (s : ℕ) (c : Dev nD) : Vec F S1x1024x1152 .bf16 := Sn.own (prv^[s] c)

theorem chunk_nxt (s : ℕ) (c : Dev nD) : chunk Sn (s + 1) (nxt c) = chunk Sn s c := by
  unfold chunk; rw [Function.iterate_succ_apply, prv_nxt]

/-! ## The schedule -/

/-- What device `c'` opens to its neighbour for hop `s`: the two slots written at that hop, and that their semaphores are ready. -/
def hop (c' : Dev nD) (s : Fin 3) : sProp 𝕄 :=
  iprop((∃ f, xgRaw c' s.succ fullShare f) ∗ (∃ f, rvRaw c' s f) ∗ reached ER (agRCell c' s) 0 ∗ reached ER (rsRCell c' s) 0)

/-- What comes with the next device's barrier signal: its slots. -/
def barPay (c : Dev nD) : sProp 𝕄 := iprop(hop (nxt c) 0 ∗ hop (nxt c) 1 ∗ hop (nxt c) 2)

/-- What a payment of a semaphore hands over. -/
def payOf (c : Dev nD) (d : Bool) : Use → sProp 𝕄
  | .bar => if d then iprop(emp) else barPay c
  | .agS s => xgPt c s.castSucc lentQ (chunk Sn s.val c)
  | .agR s => xgPt c s.succ fullShare (chunk Sn (s.val + 1) c)
  | .rsS s => rsPt c (par s) (Sn.part s c)
  | .rsR s => rvPt c s (Sn.part s (prv c))
  | .other => iprop(emp)

/-- Who pays a semaphore: both neighbours the barrier, one copy each other one. -/
def dutiesOf : Use → Finset Bool
  | .bar => {false, true}
  | .other => ∅
  | _ => {false}

/-- How much one payment is. -/
def amountOf : Use → ℕ
  | .rsS _ => N₂
  | .rsR _ => N₂
  | .agS _ => N₁
  | .agR _ => N₁
  | _ => 1

/-- The schedule: one round on every semaphore. -/
def Rd : Rounds.Schedule (GSem nD τ sig) Bool 𝕄 where
  duties g r := if r = 0 ∧ g.1.2 = .tc then dutiesOf (useOf g.2) else ∅
  unitless _ := False
  amount g _ _ := amountOf (useOf g.2)
  payload g _ d := payOf Sn g.1.1 d (useOf g.2)
  amount_pos g _ _ _ := by
    cases useOf g.2 <;> first | exact Nat.one_pos | exact N₁_pos | exact N₂_pos

instance payload_storable (g : GSem nD τ sig) (r : ℕ) (d : Bool) : BI.Storable (upEmb : UEmb _ 𝕄) ((Rd Sn).payload g r d) := by
  show BI.Storable upEmb (payOf Sn g.1.1 d (useOf g.2))
  cases useOf g.2 <;> simp only [payOf, barPay, hop, xgPt, rsPt, rvPt, xgRaw, rsRaw, rvRaw] <;> (try split) <;> infer_instance

section Sched
variable (c : Dev nD) (s : Fin 3)

theorem duties_tc (sm : SemLoc sig) : (Rd Sn).duties ((c : Thread nD τ), sm) 0 = dutiesOf (useOf sm) := by dsimp only [Rd]; exact if_pos ⟨rfl, rfl⟩
theorem duties_later (g : GSem nD τ sig) (r : ℕ) (hr : 1 ≤ r) : (Rd Sn).duties g r = ∅ := if_neg fun h => by omega
theorem mem_bar (d : Bool) : d ∈ (Rd Sn).duties (barCell c) 0 := by rw [duties_tc, use_bar]; cases d <;> decide
theorem mem_agS : false ∈ (Rd Sn).duties (agSCell c s) 0 := by rw [duties_tc, use_agS]; exact Finset.mem_singleton_self _
theorem mem_agR : false ∈ (Rd Sn).duties (agRCell c s) 0 := by rw [duties_tc, use_agR]; exact Finset.mem_singleton_self _
theorem mem_rsS : false ∈ (Rd Sn).duties (rsSCell c s) 0 := by rw [duties_tc, use_rsS]; exact Finset.mem_singleton_self _
theorem mem_rsR : false ∈ (Rd Sn).duties (rsRCell c s) 0 := by rw [duties_tc, use_rsR]; exact Finset.mem_singleton_self _

theorem amount_bar (d : Bool) : (Rd Sn).amount (barCell c) 0 d = 1 := by dsimp only [Rd]; rw [use_bar]; rfl
theorem amount_agS (d : Bool) : (Rd Sn).amount (agSCell c s) 0 d = N₁ := by dsimp only [Rd]; rw [use_agS]; rfl
theorem amount_agR (d : Bool) : (Rd Sn).amount (agRCell c s) 0 d = N₁ := by dsimp only [Rd]; rw [use_agR]; rfl
theorem amount_rsS (d : Bool) : (Rd Sn).amount (rsSCell c s) 0 d = N₂ := by dsimp only [Rd]; rw [use_rsS]; rfl
theorem amount_rsR (d : Bool) : (Rd Sn).amount (rsRCell c s) 0 d = N₂ := by dsimp only [Rd]; rw [use_rsR]; rfl

theorem expect_bar : (Rd Sn).expect (barCell c) 0 = 2 := by
  unfold Schedule.expect Schedule.amountOf
  rw [duties_tc, use_bar, show dutiesOf .bar = {false, true} from rfl, Finset.sum_pair (by decide), amount_bar, amount_bar]
theorem expect_agS : (Rd Sn).expect (agSCell c s) 0 = N₁ := by
  unfold Schedule.expect Schedule.amountOf
  rw [duties_tc, use_agS, show dutiesOf (.agS s) = {false} from rfl, Finset.sum_singleton, amount_agS]
theorem expect_agR : (Rd Sn).expect (agRCell c s) 0 = N₁ := by
  unfold Schedule.expect Schedule.amountOf
  rw [duties_tc, use_agR, show dutiesOf (.agR s) = {false} from rfl, Finset.sum_singleton, amount_agR]
theorem expect_rsS : (Rd Sn).expect (rsSCell c s) 0 = N₂ := by
  unfold Schedule.expect Schedule.amountOf
  rw [duties_tc, use_rsS, show dutiesOf (.rsS s) = {false} from rfl, Finset.sum_singleton, amount_rsS]
theorem expect_rsR : (Rd Sn).expect (rsRCell c s) 0 = N₂ := by
  unfold Schedule.expect Schedule.amountOf
  rw [duties_tc, use_rsR, show dutiesOf (.rsR s) = {false} from rfl, Finset.sum_singleton, amount_rsR]

theorem pay_bar (d : Bool) : (Rd Sn).payload (barCell c) 0 d = if d then iprop(emp) else barPay c := by
  dsimp only [Rd]; rw [use_bar]; rfl
theorem pay_agS (d : Bool) : (Rd Sn).payload (agSCell c s) 0 d = xgPt c s.castSucc lentQ (chunk Sn s.val c) := by
  dsimp only [Rd]; rw [use_agS]; rfl
theorem pay_agR (d : Bool) : (Rd Sn).payload (agRCell c s) 0 d = xgPt c s.succ fullShare (chunk Sn (s.val + 1) c) := by
  dsimp only [Rd]; rw [use_agR]; rfl
theorem pay_rsS (d : Bool) : (Rd Sn).payload (rsSCell c s) 0 d = rsPt c (par s) (Sn.part s c) := by
  dsimp only [Rd]; rw [use_rsS]; rfl
theorem pay_rsR (d : Bool) : (Rd Sn).payload (rsRCell c s) 0 d = rvPt c s (Sn.part s (prv c)) := by
  dsimp only [Rd]; rw [use_rsR]; rfl

theorem rest_bar : bigSep ((Rd Sn).duties (barCell c) 0 \ ∅) (fun d => (Rd Sn).payload (barCell c) 0 d) = iprop(barPay c ∗ emp) := by
  rw [Finset.sdiff_empty, duties_tc, use_bar, show dutiesOf .bar = {false, true} from rfl, bigSep_insert (by decide), bigSep_singleton, pay_bar, pay_bar]
  rfl
theorem rest_agS : bigSep ((Rd Sn).duties (agSCell c s) 0 \ ∅) (fun d => (Rd Sn).payload (agSCell c s) 0 d) = xgPt c s.castSucc lentQ (chunk Sn s.val c) := by
  rw [Finset.sdiff_empty, duties_tc, use_agS, show dutiesOf (.agS s) = {false} from rfl, bigSep_singleton, pay_agS]
theorem rest_agR : bigSep ((Rd Sn).duties (agRCell c s) 0 \ ∅) (fun d => (Rd Sn).payload (agRCell c s) 0 d) = xgPt c s.succ fullShare (chunk Sn (s.val + 1) c) := by
  rw [Finset.sdiff_empty, duties_tc, use_agR, show dutiesOf (.agR s) = {false} from rfl, bigSep_singleton, pay_agR]
theorem rest_rsS : bigSep ((Rd Sn).duties (rsSCell c s) 0 \ ∅) (fun d => (Rd Sn).payload (rsSCell c s) 0 d) = rsPt c (par s) (Sn.part s c) := by
  rw [Finset.sdiff_empty, duties_tc, use_rsS, show dutiesOf (.rsS s) = {false} from rfl, bigSep_singleton, pay_rsS]
theorem rest_rsR : bigSep ((Rd Sn).duties (rsRCell c s) 0 \ ∅) (fun d => (Rd Sn).payload (rsRCell c s) 0 d) = rvPt c s (Sn.part s (prv c)) := by
  rw [Finset.sdiff_empty, duties_tc, use_rsR, show dutiesOf (.rsR s) = {false} from rfl, bigSep_singleton, pay_rsR]

end Sched

/-! ## What a device owes, in the order it pays -/

/-- A list of payments, as a tally. -/
def obl : List (GSem nD τ sig × ℕ) → CellTallies nD τ sig Unit
  | [] => 0
  | p :: l => obl l + tallyAt p.1 () p.2

/-- The payments device `c` makes. -/
def payments (c : Dev nD) : List (GSem nD τ sig × ℕ) :=
  [(barCell (prv c), 1), (barCell (nxt c), 1), (agRCell (nxt c) 0, N₁), (agRCell (nxt c) 1, N₁), (rsRCell (nxt c) 0, N₂),
    (agRCell (nxt c) 2, N₁), (rsRCell (nxt c) 1, N₂), (rsRCell (nxt c) 2, N₂)]
def O₀ (c : Dev nD) : CellTallies nD τ sig Unit := obl (payments c)

theorem obl_apply (l : List (GSem nD τ sig × ℕ)) (g : GSem nD τ sig) :
    obl l g () = (l.map fun p => if g = p.1 then p.2 else 0).sum := by
  induction l with
  | nil => rfl
  | cons p l ih =>
    show (obl l + tallyAt p.1 () p.2) g () = _
    rw [Pi.add_apply, Finsupp.add_apply, ih, tallyAt_apply, List.map_cons, List.sum_cons, Nat.add_comm]
    simp only [and_true]

/-- What is owed is owed to a cell of the list. -/
theorem obl_pos {l : List (GSem nD τ sig × ℕ)} {g : GSem nD τ sig} {u : Unit} (h : 0 < obl l g u) : ∃ p ∈ l, g = p.1 := by
  cases u
  rw [obl_apply] at h
  by_contra hn
  push Not at hn
  have : (l.map fun p => if g = p.1 then p.2 else 0).sum = 0 := by
    refine List.sum_eq_zero fun x hx => ?_
    obtain ⟨p, hp, rfl⟩ := List.mem_map.mp hx
    exact if_neg (hn p hp)
  omega

/-- The cells of the protocol are the TensorCores'. -/
def L (g : GSem nD τ sig) : Finset Unit := if g.1.2 = .tc then {()} else ∅
/-- The order of the waits: what a device waits for lies below all it still owes. -/
def lvOf : Use → ℕ
  | .bar => 1
  | .agR s => 2 + s.val
  | .rsR s => 5 + s.val
  | _ => 0
def lv (g : GSem nD τ sig) (_ : Unit) : ℕ := lvOf (useOf g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by show lvOf (useOf _) = _; rw [use_bar]; rfl
theorem lv_agS (c : Dev nD) (s : Fin 3) : lv (agSCell c s) () = 0 := by show lvOf (useOf _) = _; rw [use_agS]; rfl
theorem lv_agR (c : Dev nD) (s : Fin 3) : lv (agRCell c s) () = 2 + s.val := by show lvOf (useOf _) = _; rw [use_agR]; rfl
theorem lv_rsS (c : Dev nD) (s : Fin 3) : lv (rsSCell c s) () = 0 := by show lvOf (useOf _) = _; rw [use_rsS]; rfl
theorem lv_rsR (c : Dev nD) (s : Fin 3) : lv (rsRCell c s) () = 5 + s.val := by show lvOf (useOf _) = _; rw [use_rsR]; rfl

/-- A wait whose semaphore lies below every cell still owed to. -/
theorem mayWait_obl (c : Dev nD) (sm : SemLoc sig) (l : List (GSem nD τ sig × ℕ))
    (h : ∀ p ∈ l, p.1.1.2 = .tc ∧ lv ((c : Thread nD τ), sm) () < lv p.1 ()) :
    (levAts L lv : sProp 𝕄) ⊢ MayWait (c : Thread nD τ) sm () (obl l) :=
  MayOwe.of_cut (L := L) (lev := lv) (lv ((c : Thread nD τ), sm) ())
    (fun p hp => by rw [Finset.mem_singleton.mp hp, L_tc]; exact Finset.mem_singleton_self _)
    (fun g u hg => by
      obtain ⟨p, hp, rfl⟩ := obl_pos hg
      unfold L; rw [if_pos (h p hp).1]; exact Finset.mem_singleton_self _)
    (fun p hp => by rw [Finset.mem_singleton.mp hp])
    (fun g u hg => by
      obtain ⟨p, hp, rfl⟩ := obl_pos hg
      exact (h p hp).2)

end Cert.KernelIdeal.Ring

end
-- ==== Proof.Steps.lean ====
/-
  One rule for each piece of the body: what the piece needs, and what it leaves to the rest of the program.
-/
module

public import proofs.«01_k».proof.Proof.Protocol

@[expose] public section

set_option maxRecDepth 16384

noncomputable section

namespace Cert.KernelIdeal.Ring

open Cert.KernelIdeal Cert.KernelIdeal.Gen Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Sn : Sent F)

/-! ## The cells' invariants -/

/-- The four copy semaphores of each hop. -/
def osem (k : Fin 4 × Fin 3) : SemLoc sig :=
  match k.1 with
  | 0 => .dma (agS k.2)
  | 1 => .dma (agR k.2)
  | 2 => .dma (rsS k.2)
  | 3 => .dma (rsR k.2)

theorem osem_inj : Function.Injective osem := by decide
theorem osem_ne_bar : ∀ k, osem k ≠ .reg barS := by decide

def barEmb : Dev nD ↪ GSem nD τ sig := ⟨fun c => barCell c, fun _ _ h => congrArg (fun g : GSem nD τ sig => g.1.1) h⟩
def scEmb : Dev nD × (Fin 4 × Fin 3) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the cells of the copies' semaphores. -/
abbrev barCells : Finset (GSem nD τ sig) := Finset.univ.map barEmb
abbrev scCells : Finset (GSem nD τ sig) := Finset.univ.map scEmb

/-- Every cell's invariant, at the names `κ`. -/
def invs (κ : GSem nD τ sig → ℕ) : sProp 𝕄 := bigSep (barCells ∪ scCells) fun g => cellInv ER (Rd Sn) (κ g) g

instance invs_persistent (κ : GSem nD τ sig → ℕ) : BI.Persistent (invs Sn κ) := by unfold invs; infer_instance

theorem inv_bar (κ : GSem nD τ sig → ℕ) (c : Dev nD) : invs Sn κ ⊢ cellInv ER (Rd Sn) (κ (barCell c)) (barCell c) :=
  bigSep_elim (Finset.mem_union_left _ (Finset.mem_map_of_mem barEmb (Finset.mem_univ c)))
theorem inv_osem (κ : GSem nD τ sig → ℕ) (c : Dev nD) (k : Fin 4 × Fin 3) :
    invs Sn κ ⊢ cellInv ER (Rd Sn) (κ ((c : Thread nD τ), osem k)) ((c : Thread nD τ), osem k) :=
  bigSep_elim (Finset.mem_union_right _ (Finset.mem_map_of_mem scEmb (Finset.mem_univ (c, k))))
theorem inv_agS (κ : GSem nD τ sig → ℕ) (c : Dev nD) (s : Fin 3) : invs Sn κ ⊢ cellInv ER (Rd Sn) (κ (agSCell c s)) (agSCell c s) := inv_osem Sn κ c (0, s)
theorem inv_agR (κ : GSem nD τ sig → ℕ) (c : Dev nD) (s : Fin 3) : invs Sn κ ⊢ cellInv ER (Rd Sn) (κ (agRCell c s)) (agRCell c s) := inv_osem Sn κ c (1, s)
theorem inv_rsS (κ : GSem nD τ sig → ℕ) (c : Dev nD) (s : Fin 3) : invs Sn κ ⊢ cellInv ER (Rd Sn) (κ (rsSCell c s)) (rsSCell c s) := inv_osem Sn κ c (2, s)
theorem inv_rsR (κ : GSem nD τ sig → ℕ) (c : Dev nD) (s : Fin 3) : invs Sn κ ⊢ cellInv ER (Rd Sn) (κ (rsRCell c s)) (rsRCell c s) := inv_osem Sn κ c (3, s)

/-! ## The rules -/

/-- Device `c` runs `p` to `Q`. -/
abbrev WP (c : Dev nD) {α : Type} (p : KP F α) (Q : α → sProp 𝕄) : sProp 𝕄 :=
  wp frame (wpE (defs₀ (F := F)) 𝒱₀ (c : Thread nD τ) none) Set.univ p Q

/-- Device `c` owes the payments `l`, whatever waits it has recorded. -/
def ow (c : Dev nD) (l : List (GSem nD τ sig × ℕ)) : sProp 𝕄 := iprop(∃ W, owes (c : Thread nD τ) (obl l) W)

variable (κ : GSem nD τ sig → ℕ) (c : Dev nD) {α : Type}

section Sends
variable (l : List (GSem nD τ sig × ℕ)) (s : Fin 3)

/-- A hop of the chunk ring: the copy takes the lent half of the slot it reads and the neighbour's slot, and pays the neighbour. -/
theorem step_sendAg (k : PUnit → KP F α) (Q : α → sProp 𝕄) :
    iprop(invs Sn κ ∗ xgPt c s.castSucc lentQ (chunk Sn s.val c) ∗ (∃ f, xgRaw (nxt c) s.succ fullShare f)
        ∗ ow c ((agRCell (nxt c) s, N₁) :: l)
        ∗ dutyTok ER (agSCell c s) 0 false ∗ reached ER (agSCell c s) 0
        ∗ dutyTok ER (agRCell (nxt c) s) 0 false ∗ reached ER (agRCell (nxt c) s) 0)
      ⊢ iprop(((cred (tallyAt (agSCell c s) () N₁) ∗ ow c l) -∗ WP c (k ⟨⟩) Q) -∗ WP c (sendAg s (nxt c) >>= k) Q) := by
  unfold ow
  iintro ⟨#HI, Hx, ⟨%f, Hd⟩, ⟨%W, HO⟩, Ht1, Hr1, Ht2, Hr2⟩ Hk
  iapply (Rounds.wp_send_pointsTo 𝒱₀ ER (Rd Sn) (c : Thread nD τ) none (c' := (nxt c : Thread nD τ)) (src := xgSlot s.castSucc) (dst := xgSlot s.succ)
      (sS := .dma (agS s)) (sem := .dma (agR s)) (q := lentQ) (fs := xgBuf (chunk Sn s.val c)) (κ₁ := κ (agSCell c s)) (κ₂ := κ (agRCell (nxt c) s))
      (r₁ := 0) (r₂ := 0) (d₁ := false) (d₂ := false) (fd := f) (mem_agS Sn c s) (mem_agR Sn (nxt c) s) () () N₁ rfl
      (amount_agS Sn c s false) (amount_agR Sn (nxt c) s false) (obl l) rfl (W := W)
      (by rw [pay_agS, xgSlot_set]; exact BI.Entails.refl _)
      (by rw [pay_agR, chunk_nxt, xgSlot_set]; exact Entails.of_eq (pointsTo_congr (xg_copy s.castSucc s.succ f _)))) $$ [Hx Hd HO Ht1 Hr1 Ht2 Hr2]
  · isplitr; · iapply (inv_agS Sn κ c s); iexact HI
    isplitr; · iapply (inv_agR Sn κ (nxt c) s); iexact HI
    isplitl [Hx]; · rw [xgSlot_set]; unfold xgPt xgRaw; iexact Hx
    isplitl [Hd]; · rw [xgSlot_set]; unfold xgRaw; iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

/-- A hop of the reduction ring. -/
theorem step_sendRs (k : PUnit → KP F α) (Q : α → sProp 𝕄) :
    iprop(invs Sn κ ∗ rsPt c (par s) (Sn.part s c) ∗ (∃ f, rvRaw (nxt c) s f)
        ∗ ow c ((rsRCell (nxt c) s, N₂) :: l)
        ∗ dutyTok ER (rsSCell c s) 0 false ∗ reached ER (rsSCell c s) 0
        ∗ dutyTok ER (rsRCell (nxt c) s) 0 false ∗ reached ER (rsRCell (nxt c) s) 0)
      ⊢ iprop(((cred (tallyAt (rsSCell c s) () N₂) ∗ ow c l) -∗ WP c (k ⟨⟩) Q) -∗ WP c (sendRs s (nxt c) >>= k) Q) := by
  unfold ow
  iintro ⟨#HI, Hx, ⟨%f, Hd⟩, ⟨%W, HO⟩, Ht1, Hr1, Ht2, Hr2⟩ Hk
  iapply (Rounds.wp_send_pointsTo 𝒱₀ ER (Rd Sn) (c : Thread nD τ) none (c' := (nxt c : Thread nD τ)) (src := rsSlot (par s)) (dst := rvSlot s)
      (sS := .dma (rsS s)) (sem := .dma (rsR s)) (q := fullShare) (fs := rsBuf (Sn.part s c)) (κ₁ := κ (rsSCell c s)) (κ₂ := κ (rsRCell (nxt c) s))
      (r₁ := 0) (r₂ := 0) (d₁ := false) (d₂ := false) (fd := f) (mem_rsS Sn c s) (mem_rsR Sn (nxt c) s) () () N₂ rfl
      (amount_rsS Sn c s false) (amount_rsR Sn (nxt c) s false) (obl l) rfl (W := W)
      (by rw [pay_rsS, rsSlot_set]; exact BI.Entails.refl _)
      (by rw [pay_rsR, prv_nxt, rvSlot_set]; exact Entails.of_eq (pointsTo_congr (rv_copy (par s) s f _)))) $$ [Hx Hd HO Ht1 Hr1 Ht2 Hr2]
  · isplitr; · iapply (inv_rsS Sn κ c s); iexact HI
    isplitr; · iapply (inv_rsR Sn κ (nxt c) s); iexact HI
    isplitl [Hx]; · rw [rsSlot_set]; unfold rsPt rsRaw; iexact Hx
    isplitl [Hd]; · rw [rvSlot_set]; unfold rvRaw; iexact Hd
    isplitl [HO]; · iexact HO
    isplitl [Ht1]; · iexact Ht1
    isplitl [Hr1]; · iexact Hr1
    isplitl [Ht2] <;> iassumption
  iintro ⟨Hc, HO⟩
  iapply Hk
  isplitl [Hc]; · iexact Hc
  iexists W; iexact HO

end Sends

section Waits
variable (l : List (GSem nD τ sig × ℕ)) (s : Fin 3)

/-- The neighbour's chunk awaited: it lies in slot `s + 1`. -/
theorem step_recvAg (k : PUnit → KP F α) (Q : α → sProp 𝕄) (hl : ∀ p ∈ l, p.1.1.2 = .tc ∧ lv (agRCell c s) () < lv p.1 ()) :
    iprop(invs Sn κ ∗ levAts L lv ∗ cred (tallyAt (agRCell c s) () N₁) ∗ ow c l ∗ atPos ER (agRCell c s) 0 ∅ 0)
      ⊢ iprop(((ow c l ∗ atPos ER (agRCell c s) 1 ∅ 0 ∗ xgPt c s.succ fullShare (chunk Sn (s.val + 1) c)) -∗ WP c (k ⟨⟩) Q) -∗ WP c (recvAg s >>= k) Q) := by
  unfold ow
  iintro ⟨#HI, #Hlev, Hc, ⟨%W, HO⟩, Hat⟩ Hk
  iapply (Rounds.wp_wait_rest_token 𝒱₀ ER (Rd Sn) (c : Thread nD τ) none (κ := κ (agRCell c s))
      (wpE_waitDma2_eq (src := xgSlot s.castSucc) (dst := xgSlot s.succ) 𝒱₀ (c : Thread nD τ) none Set.univ) (Set.mem_univ _) () (O := obl l) (W := W) (R := 0) (m := 0) (T := ∅)
      ((Nat.zero_add _).trans (expect_agR Sn c s).symm)) $$ [Hc HO Hat]
  · isplitr; · iapply (inv_agR Sn κ c s); iexact HI
    isplitl [Hc]; · iexact Hc
    isplitl [HO]; · iexact HO
    isplitr; · iapply (mayWait_obl c _ l hl); iexact Hlev
    iexact Hat
  iintro ⟨HO, Hat, -, Hpay⟩
  ihave Hp := (Entails.of_eq (rest_agR Sn c s)) $$ Hpay
  iapply Hk
  isplitl [HO]; · iexists _; iexact HO
  isplitl [Hat] <;> iassumption

/-- The device's own chunk copy done: the lent half of slot `s` is back. -/
theorem step_doneAg (k : PUnit → KP F α) (Q : α → sProp 𝕄) (hl : ∀ p ∈ l, p.1.1.2 = .tc ∧ lv (agSCell c s) () < lv p.1 ()) :
    iprop(invs Sn κ ∗ levAts L lv ∗ cred (tallyAt (agSCell c s) () N₁) ∗ ow c l ∗ atPos ER (agSCell c s) 0 ∅ 0)
      ⊢ iprop(((ow c l ∗ atPos ER (agSCell c s) 1 ∅ 0 ∗ xgPt c s.castSucc lentQ (chunk Sn s.val c)) -∗ WP c (k ⟨⟩) Q) -∗ WP c (doneAg s >>= k) Q) := by
  unfold ow
  iintro ⟨#HI, #Hlev, Hc, ⟨%W, HO⟩, Hat⟩ Hk
  iapply (Rounds.wp_wait_rest_token 𝒱₀ ER (Rd Sn) (c : Thread nD τ) none (κ := κ (agSCell c s))
      (wpE_waitDma2_eq (src := xgSlot s.succ) (dst := xgSlot s.castSucc) 𝒱₀ (c : Thread nD τ) none Set.univ) (Set.mem_univ _) () (O := obl l) (W := W) (R := 0) (m := 0) (T := ∅)
      ((Nat.zero_add _).trans (expect_agS Sn c s).symm)) $$ [Hc HO Hat]
  · isplitr; · iapply (inv_agS Sn κ c s); iexact HI
    isplitl [Hc]; · iexact Hc
    isplitl [HO]; · iexact HO
    isplitr; · iapply (mayWait_obl c _ l hl); iexact Hlev
    iexact Hat
  iintro ⟨HO, Hat, -, Hpay⟩
  ihave Hp := (Entails.of_eq (rest_agS Sn c s)) $$ Hpay
  iapply Hk
  isplitl [HO]; · iexists _; iexact HO
  isplitl [Hat] <;> iassumption

/-- The neighbour's partial sum awaited. -/
theorem step_recvRs (k : PUnit → KP F α) (Q : α → sProp 𝕄) (hl : ∀ p ∈ l, p.1.1.2 = .tc ∧ lv (rsRCell c s) () < lv p.1 ()) :
    iprop(invs Sn κ ∗ levAts L lv ∗ cred (tallyAt (rsRCell c s) () N₂) ∗ ow c l ∗ atPos ER (rsRCell c s) 0 ∅ 0)
      ⊢ iprop(((ow c l ∗ atPos ER (rsRCell c s) 1 ∅ 0 ∗ rvPt c s (Sn.part s (prv c))) -∗ WP c (k ⟨⟩) Q) -∗ WP c (recvRs s >>= k) Q) := by
  unfold ow
  iintro ⟨#HI, #Hlev, Hc, ⟨%W, HO⟩, Hat⟩ Hk
  iapply (Rounds.wp_wait_rest_token 𝒱₀ ER (Rd Sn) (c : Thread nD τ) none (κ := κ (rsRCell c s))
      (wpE_waitDma2_eq (src := rsSlot (par s)) (dst := rvSlot s) 𝒱₀ (c : Thread nD τ) none Set.univ) (Set.mem_univ _) () (O := obl l) (W := W) (R := 0) (m := 0) (T := ∅)
      ((Nat.zero_add _).trans (expect_rsR Sn c s).symm)) $$ [Hc HO Hat]
  · isplitr; · iapply (inv_rsR Sn κ c s); iexact HI
    isplitl [Hc]; · iexact Hc
    isplitl [HO]; · iexact HO
    isplitr; · iapply (mayWait_obl c _ l hl); iexact Hlev
    iexact Hat
  iintro ⟨HO, Hat, -, Hpay⟩
  ihave Hp := (Entails.of_eq (rest_rsR Sn c s)) $$ Hpay
  iapply Hk
  isplitl [HO]; · iexists _; iexact HO
  isplitl [Hat] <;> iassumption

/-- The device's own partial sum sent: its slot is back. -/
theorem step_doneRs (k : PUnit → KP F α) (Q : α → sProp 𝕄) (hl : ∀ p ∈ l, p.1.1.2 = .tc ∧ lv (rsSCell c s) () < lv p.1 ()) :
    iprop(invs Sn κ ∗ levAts L lv ∗ cred (tallyAt (rsSCell c s) () N₂) ∗ ow c l ∗ atPos ER (rsSCell c s) 0 ∅ 0)
      ⊢ iprop(((ow c l ∗ atPos ER (rsSCell c s) 1 ∅ 0 ∗ rsPt c (par s) (Sn.part s c)) -∗ WP c (k ⟨⟩) Q) -∗ WP c (doneRs s >>= k) Q) := by
  unfold ow
  iintro ⟨#HI, #Hlev, Hc, ⟨%W, HO⟩, Hat⟩ Hk
  iapply (Rounds.wp_wait_rest_token 𝒱₀ ER (Rd Sn) (c : Thread nD τ) none (κ := κ (rsSCell c s))
      (wpE_waitDma2_eq (src := rvSlot s) (dst := rsSlot (par s)) 𝒱₀ (c : Thread nD τ) none Set.univ) (Set.mem_univ _) () (O := obl l) (W := W) (R := 0) (m := 0) (T := ∅)
      ((Nat.zero_add _).trans (expect_rsS Sn c s).symm)) $$ [Hc HO Hat]
  · isplitr; · iapply (inv_rsS Sn κ c s); iexact HI
    isplitl [Hc]; · iexact Hc
    isplitl [HO]; · iexact HO
    isplitr; · iapply (mayWait_obl c _ l hl); iexact Hlev
    iexact Hat
  iintro ⟨HO, Hat, -, Hpay⟩
  ihave Hp := (Entails.of_eq (rest_rsS Sn c s)) $$ Hpay
  iapply Hk
  isplitl [HO]; · iexists _; iexact HO
  isplitl [Hat] <;> iassumption

/-- The entry barrier: the device opens its slots to its left neighbour, tells its right neighbour, and gets its right neighbour's slots. -/
theorem step_barrier (k : PUnit → KP F α) (Q : α → sProp 𝕄) (hl : ∀ p ∈ l, p.1.1.2 = .tc ∧ lv (barCell c) () < lv p.1 ()) :
    iprop(invs Sn κ ∗ levAts L lv ∗ cred (tallyAt (barCell c) () 2) ∗ ow c ((barCell (prv c), 1) :: (barCell (nxt c), 1) :: l) ∗ atPos ER (barCell c) 0 ∅ 0
        ∗ dutyTok ER (barCell (prv c)) 0 false ∗ reached ER (barCell (prv c)) 0
        ∗ dutyTok ER (barCell (nxt c)) 0 true ∗ reached ER (barCell (nxt c)) 0
        ∗ hop c 0 ∗ hop c 1 ∗ hop c 2)
      ⊢ iprop(((ow c l ∗ atPos ER (barCell c) 1 ∅ 0 ∗ hop (nxt c) 0 ∗ hop (nxt c) 1 ∗ hop (nxt c) 2) -∗ WP c (k ⟨⟩) Q)
          -∗ WP c (barrierP (prv c) (nxt c) >>= k) Q) := by
  unfold ow
  iintro ⟨#HI, #Hlev, Hc, ⟨%W, HO⟩, Hat, Ht1, Hr1, Ht2, Hr2, Hp0, Hp1, Hp2⟩ Hk
  iapply (Rounds.wp_signal 𝒱₀ ER (Rd Sn) (c : Thread nD τ) none (dst := (prv c : Thread nD τ)) (sem := barS) (r := 0) (d := false) (κ := κ (barCell (prv c)))
      (mem_bar Sn (prv c) false) (amount_bar Sn (prv c) false) () (obl ((barCell (nxt c), 1) :: l)) rfl) $$ [HO Ht1 Hr1 Hp0 Hp1 Hp2]
  · isplitr; · iapply (inv_bar Sn κ (prv c)); iexact HI
    isplitl [HO]; · iexact HO
    isplitl [Ht1]; · iexact Ht1
    isplitl [Hp0 Hp1 Hp2]
    · rw [pay_bar, if_neg (by decide)]; unfold barPay; rw [nxt_prv]
      isplitl [Hp0]; · iexact Hp0
      isplitl [Hp1] <;> iassumption
    iexact Hr1
  iintro HO
  iapply (Rounds.wp_signal 𝒱₀ ER (Rd Sn) (c : Thread nD τ) none (dst := (nxt c : Thread nD τ)) (sem := barS) (r := 0) (d := true) (κ := κ (barCell (nxt c)))
      (mem_bar Sn (nxt c) true) (amount_bar Sn (nxt c) true) () (obl l) rfl) $$ [HO Ht2 Hr2]
  · isplitr; · iapply (inv_bar Sn κ (nxt c)); iexact HI
    isplitl [HO]; · iexact HO
    isplitl [Ht2]; · iexact Ht2
    isplitr
    · rw [pay_bar, if_pos rfl]; iempintro
    iexact Hr2
  iintro HO
  iapply (Rounds.wp_wait_rest_token 𝒱₀ ER (Rd Sn) (c : Thread nD τ) none (κ := κ (barCell c))
      (wpE_semWait_eq 𝒱₀ (c : Thread nD τ) none Set.univ) (Set.mem_univ _) () (O := obl l) (W := W) (R := 0) (m := 0) (T := ∅)
      ((Nat.zero_add _).trans (expect_bar Sn c).symm)) $$ [Hc HO Hat]
  · isplitr; · iapply (inv_bar Sn κ c); iexact HI
    isplitl [Hc]; · iexact Hc
    isplitl [HO]; · iexact HO
    isplitr; · iapply (mayWait_obl c _ l hl); iexact Hlev
    iexact Hat
  iintro ⟨HO, Hat, -, Hpay⟩
  ihave Hp := (Entails.of_eq (rest_bar Sn c)) $$ Hpay
  unfold barPay
  icases Hp with ⟨Hp, -⟩
  iapply Hk
  isplitl [HO]; · iexists _; iexact HO
  isplitl [Hat] <;> iassumption

end Waits

end Cert.KernelIdeal.Ring

end
-- ==== Proof.Compute.lean ====
/-
  The pieces of the body that touch only the device's own memory: what each loads, computes and stores.
-/
module

public import proofs.«01_k».proof.Proof.Steps

@[expose] public section

set_option maxRecDepth 16384

noncomputable section

namespace Cert.KernelIdeal.Ring

open Cert.KernelIdeal Cert.KernelIdeal.Gen Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Values -/

/-- The quarter `t` of an expert's first and second weight matrices. -/
def w1Blk (W1 : Vec F S2x1024x2048 .bf16) (j : Fin 2) (t : Fin 4) : Vec F S1x1024x512 .bf16 := (w1M.access (w1Rect j t)).read (Elt F) W1
def w2Blk (W2 : Vec F S2x2048x1024 .bf16) (j : Fin 2) (t : Fin 4) : Vec F S1x512x1024 .bf16 := (w2M.access (w2Rect j t)).read (Elt F) W2

section Values
variable (W1 : Vec F S2x1024x2048 .bf16) (W2 : Vec F S2x2048x1024 .bf16) (ld st : FVec F S1024x1024 .f32 → FVec F S1024x1024 .f32)

/-- The contribution of quarter `t` of local expert `j` to masked rows `xm`. -/
def quarter (xm : FVec F S1024x1024 .bf16) (j : Fin 2) (t : Fin 4) : FVec F S1024x1024 .f32 := tile xm (w1Blk W1 j t) (w2Blk W2 j t)

/-- An accumulator with a quarter added. -/
def plus (a : FVec F S1024x1024 .f32) (xm : FVec F S1024x1024 .bf16) (j : Fin 2) (t : Fin 4) : FVec F S1024x1024 .f32 :=
  st (addf (ld a) (quarter W1 W2 xm j t))

/-- What an expert's block leaves in an accumulator it overwrites. -/
def firstV (z : BitVec 32) (X : Vec F S1x1024x1152 .bf16) (j : Fin 2) : FVec F S1024x1024 .f32 :=
  plus W1 W2 ld st (plus W1 W2 ld st (plus W1 W2 ld st (st (quarter W1 W2 (masked z (BitVec.ofNat 32 j.val) X) j 0))
    (masked z (BitVec.ofNat 32 j.val) X) j 1) (masked z (BitVec.ofNat 32 j.val) X) j 2) (masked z (BitVec.ofNat 32 j.val) X) j 3

/-- What an expert's block leaves in an accumulator it adds to. -/
def nextV (a : FVec F S1024x1024 .f32) (z : BitVec 32) (X : Vec F S1x1024x1152 .bf16) (j : Fin 2) : FVec F S1024x1024 .f32 :=
  plus W1 W2 ld st (plus W1 W2 ld st (plus W1 W2 ld st (plus W1 W2 ld st a (masked z (BitVec.ofNat 32 j.val) X) j 0)
    (masked z (BitVec.ofNat 32 j.val) X) j 1) (masked z (BitVec.ofNat 32 j.val) X) j 2) (masked z (BitVec.ofNat 32 j.val) X) j 3

/-- Both local experts on one chunk, as the partial accumulator ends holding it. -/
def bothV (z : BitVec 32) (X : Vec F S1x1024x1152 .bf16) : FVec F S1024x1024 .f32 :=
  nextV W1 W2 (fun v => v) recast (firstV W1 W2 (fun v => v) recast z X 0) z X 1

end Values

/-! ## Rules -/

variable (c : Dev nD) {α : Type}

/-- From a rule at the end of a program to the rule at its head. -/
theorem head {p : KP F PUnit} {P P' : sProp 𝕄} (h : ∀ Φ : PUnit → sProp 𝕄, P ⊢ iprop((P' -∗ Φ ⟨⟩) -∗ WP c p Φ)) (k : PUnit → KP F α) (Q : α → sProp 𝕄) :
    P ⊢ iprop((P' -∗ WP c (k ⟨⟩) Q) -∗ WP c (p >>= k) Q) := by
  rw [show WP c (p >>= k) Q = WP c p (fun a => WP c (k a) Q) from wp_bind _ _ _ p k Q]
  exact h fun a => WP c (k a) Q

theorem step_loadXg (k : Vec F S1x1024x1152 .bf16 → KP F α) (Q : α → sProp 𝕄) (s : Fin 4) (q : PosShare TreeShare) (f : cc0_scratch0.ty.Contents (Elt F)) :
    xgRaw c s q f ⊢ iprop((xgRaw c s q f -∗ WP c (k ((xgM.access (xgRect s)).read (Elt F) f)) Q) -∗ WP c (loadXg s >>= k) Q) :=
  wp_load_rect (defs := defs₀ (F := F)) 𝒱₀ (c : Thread nD τ) none Set.univ (m := xgM) (r := xgRect s) (xgAcc_set s).subset

theorem step_loadRs (k : Vec F S1x1024x1024 .bf16 → KP F α) (Q : α → sProp 𝕄) (s : Fin 2) (f : cc0_scratch1.ty.Contents (Elt F)) :
    rsRaw c s f ⊢ iprop((rsRaw c s f -∗ WP c (k ((rsM.access (rsRect s)).read (Elt F) f)) Q) -∗ WP c (loadRs s >>= k) Q) :=
  wp_load_rect (defs := defs₀ (F := F)) 𝒱₀ (c : Thread nD τ) none Set.univ (m := rsM) (r := rsRect s) (rsAcc_set s).subset

theorem step_loadRv (k : Vec F S1x1024x1024 .bf16 → KP F α) (Q : α → sProp 𝕄) (s : Fin 3) (X : Vec F S1x1024x1024 .bf16) :
    rvPt c s X ⊢ iprop((rvPt c s X -∗ WP c (k X) Q) -∗ WP c (loadRv s >>= k) Q) := by
  have h := wp_load_rect (Γ := []) (defs := defs₀ (F := F)) 𝒱₀ (c : Thread nD τ) none Set.univ (m := rvM) (r := rvRect s)
    (hl := View.loadsAt_vmem h_S1x1024x1024) (k := k) (Q := Q) (q := fullShare) (f := rvBuf X) (rvAcc_set s).subset
  rw [rv_read] at h
  exact h

/-- The accumulator's point-to, and the store of a partial sum, whatever the slot held. -/
theorem step_storeRs (k : PUnit → KP F α) (Q : α → sProp 𝕄) (s : Fin 2) (f : cc0_scratch1.ty.Contents (Elt F)) (v : FVec F S1x1024x1024 .bf16) :
    rsRaw c s f ⊢ iprop((rsPt c s v -∗ WP c (k ⟨⟩) Q) -∗ WP c (storeRs s v >>= k) Q) := by
  have h := wp_store (Γ := []) (defs := defs₀ (F := F)) 𝒱₀ (c : Thread nD τ) none Set.univ (m := rsM) (r := rsRect s) (w := v) (Mk := Finset.univ)
    (hx := View.stores_vmem h_S1x1024x1024 ((Memref.isWhole_whole cc0_scratch1).storeExact_slice rfl _ (rs_packed s)) (fun _ => rfl)) (hm := .inl rfl)
    (k := k) (Q := Q) (f := f) (S := rsSet s) (by rw [View.setOn_univ]; exact (rsAcc_set s).subset)
  rw [← show rsRaw c s ((rsM.access (rsRect s)).write (Elt F) f v Finset.univ) = rsPt c s v from pointsTo_congr (rs_write s f v)]
  exact h

theorem step_storeXg0 (k : PUnit → KP F α) (Q : α → sProp 𝕄) (f : cc0_scratch0.ty.Contents (Elt F)) (v : FVec F S1x1024x1152 .bf16) :
    xgRaw c 0 fullShare f ⊢ iprop((xgPt c 0 fullShare v -∗ WP c (k ⟨⟩) Q) -∗ WP c (storeXg0 v >>= k) Q) := by
  have h := wp_store (Γ := []) (defs := defs₀ (F := F)) 𝒱₀ (c : Thread nD τ) none Set.univ (m := xgM) (r := xgRect 0) (w := v) (Mk := Finset.univ)
    (hx := View.stores_vmem h_S1x1024x1152 ((Memref.isWhole_whole cc0_scratch0).storeExact_slice rfl _ packedbf16_S4x1024x1152_S1x1024x1152_0_0_0) (fun _ => rfl)) (hm := .inl rfl)
    (k := k) (Q := Q) (f := f) (S := xgSet 0) (by rw [View.setOn_univ]; exact (xgAcc_set 0).subset)
  rw [← show xgRaw c 0 fullShare ((xgM.access (xgRect 0)).write (Elt F) f v Finset.univ) = xgPt c 0 fullShare v from pointsTo_congr (xg_write 0 f v)]
  exact h

/-- The device's slab, as it is staged; the weights, as they are staged. -/
def slabPt (S : Vec F S1024x1152 .bf16) : sProp 𝕄 := ((c : Thread nD τ).loc cc0_stg0_0) ↦{fullShare} (S : cc0_stg0_0.ty.Contents (Elt F))
def w1Pt (W1 : Vec F S2x1024x2048 .bf16) : sProp 𝕄 := ((c : Thread nD τ).loc cc0_stg1_0) ↦{fullShare} (W1 : cc0_stg1_0.ty.Contents (Elt F))
def w2Pt (W2 : Vec F S2x2048x1024 .bf16) : sProp 𝕄 := ((c : Thread nD τ).loc cc0_stg2_0) ↦{fullShare} (W2 : cc0_stg2_0.ty.Contents (Elt F))

theorem step_loadW1 (k : Vec F S1x1024x512 .bf16 → KP F α) (Q : α → sProp 𝕄) (W1 : Vec F S2x1024x2048 .bf16) (j : Fin 2) (t : Fin 4) :
    w1Pt c W1 ⊢ iprop((w1Pt c W1 -∗ WP c (k (w1Blk W1 j t)) Q) -∗ WP c (loadW1 j t >>= k) Q) :=
  wp_load_rect (defs := defs₀ (F := F)) 𝒱₀ (c : Thread nD τ) none Set.univ (m := w1M) (r := w1Rect j t) (Finset.subset_univ _)
theorem step_loadW2 (k : Vec F S1x512x1024 .bf16 → KP F α) (Q : α → sProp 𝕄) (W2 : Vec F S2x2048x1024 .bf16) (j : Fin 2) (t : Fin 4) :
    w2Pt c W2 ⊢ iprop((w2Pt c W2 -∗ WP c (k (w2Blk W2 j t)) Q) -∗ WP c (loadW2 j t >>= k) Q) :=
  wp_load_rect (defs := defs₀ (F := F)) 𝒱₀ (c : Thread nD τ) none Set.univ (m := w2M) (r := w2Rect j t) (Finset.subset_univ _)

/-- The whole slab loaded. -/
theorem step_loadSlab (k : Vec F S1024x1152 .bf16 → KP F α) (Q : α → sProp 𝕄) (S : Vec F S1024x1152 .bf16) :
    slabPt c S ⊢ iprop((slabPt c S -∗ WP c (k S) Q) -∗ WP c (Prog.lift (.load slabM slabRect.toLoadRect (View.loadsAt_vmem h_S1024x1152)) >>= k) Q) := by
  have h := wp_load (Γ := []) (defs := defs₀ (F := F)) 𝒱₀ (c : Thread nD τ) none Set.univ (m := slabM) (r := slabRect.toLoadRect)
    (hl := View.loadsAt_vmem h_S1024x1152) (k := k) (Q := Q) (q := fullShare) (f := (S : cc0_stg0_0.ty.Contents (Elt F))) (S := Finset.univ) (Finset.subset_univ _)
  rw [show slabM.view.readAt (Elt F) slabRect.toLoadRect (S : cc0_stg0_0.ty.Contents (Elt F)) = S from by
    exact Memref.readAt_unit_zero (Elt F) cc0_stg0_0 (by funext a; fin_cases a <;> rfl) _ _] at h
  exact h

/-- A finished program. -/
theorem done (a : α) (Φ : α → sProp 𝕄) : Φ a ⊢ WP c (.ret a) Φ := by
  unfold WP
  rw [wp_ret]
  exact fupd_intro

/-- What the rules need of an accumulator: its point-to, a load of it all, a store of it all. -/
structure AccRule (acc : Memref sig .tc .vmem S1024x1024 .f32) where
  pt : FVec F S1024x1024 .f32 → sProp 𝕄
  load : ∀ {α : Type} (k : Vec F S1024x1024 .f32 → KP F α) (Q : α → sProp 𝕄) (f : FVec F S1024x1024 .f32),
    pt f ⊢ iprop((pt f -∗ WP c (k f) Q) -∗ WP c (loadAcc acc >>= k) Q)
  store : ∀ (f v : FVec F S1024x1024 .f32) (Φ : PUnit → sProp 𝕄), pt f ⊢ iprop((pt v -∗ Φ ⟨⟩) -∗ WP c (storeAcc acc v) Φ)

/-- The result's window as an accumulator. -/
def outRule : AccRule (F := F) c outM where
  pt f := ((c : Thread nD τ).loc cc0_stg3_0) ↦{fullShare} (f : cc0_stg3_0.ty.Contents (Elt F))
  load k Q f := by
    have h := wp_load (Γ := []) (defs := defs₀ (F := F)) 𝒱₀ (c : Thread nD τ) none Set.univ (m := outM) (r := accRect.toLoadRect)
      (hl := View.loadsAt_vmem h_S1024x1024) (k := k) (Q := Q) (q := fullShare) (f := (f : cc0_stg3_0.ty.Contents (Elt F))) (S := Finset.univ) (Finset.subset_univ _)
    rw [show outM.view.readAt (Elt F) accRect.toLoadRect (f : cc0_stg3_0.ty.Contents (Elt F)) = f from by
      exact Memref.readAt_unit_zero (Elt F) cc0_stg3_0 (by funext a; fin_cases a <;> rfl) _ _] at h
    exact h
  store f v Φ := by
    have h := wp_store (Γ := []) (defs := defs₀ (F := F)) 𝒱₀ (c : Thread nD τ) none Set.univ (m := outM) (r := accRect) (w := v) (Mk := Finset.univ)
      (hx := View.stores_vmem_bits_univ h_S1024x1024 rfl) (hm := .inl rfl)
      (k := .ret) (Q := Φ) (f := (f : cc0_stg3_0.ty.Contents (Elt F))) (S := Finset.univ) (Finset.subset_univ _)
    rw [show (outM.access accRect).write (Elt F) (f : cc0_stg3_0.ty.Contents (Elt F)) v Finset.univ = v from by
      exact Memref.write_access_unit_zero_univ (Elt F) cc0_stg3_0 (by funext a; fin_cases a <;> rfl) _ _ _] at h
    refine h.trans (wand_mono_left (wand_mono_right ?_))
    rw [wp_ret]
    exact fupd_intro

/-- The scratch of partial sums as an accumulator. -/
def paccRule : AccRule (F := F) c paccM where
  pt f := ((c : Thread nD τ).loc cc0_scratch3) ↦{fullShare} (f : cc0_scratch3.ty.Contents (Elt F))
  load k Q f := by
    have h := wp_load (Γ := []) (defs := defs₀ (F := F)) 𝒱₀ (c : Thread nD τ) none Set.univ (m := paccM) (r := accRect.toLoadRect)
      (hl := View.loadsAt_vmem h_S1024x1024) (k := k) (Q := Q) (q := fullShare) (f := (f : cc0_scratch3.ty.Contents (Elt F))) (S := Finset.univ) (Finset.subset_univ _)
    rw [show paccM.view.readAt (Elt F) accRect.toLoadRect (f : cc0_scratch3.ty.Contents (Elt F)) = f from by
      exact Memref.readAt_unit_zero (Elt F) cc0_scratch3 (by funext a; fin_cases a <;> rfl) _ _] at h
    exact h
  store f v Φ := by
    have h := wp_store (Γ := []) (defs := defs₀ (F := F)) 𝒱₀ (c : Thread nD τ) none Set.univ (m := paccM) (r := accRect) (w := v) (Mk := Finset.univ)
      (hx := View.stores_vmem_bits_univ h_S1024x1024 rfl) (hm := .inl rfl)
      (k := .ret) (Q := Φ) (f := (f : cc0_scratch3.ty.Contents (Elt F))) (S := Finset.univ) (Finset.subset_univ _)
    rw [show (paccM.access accRect).write (Elt F) (f : cc0_scratch3.ty.Contents (Elt F)) v Finset.univ = v from by
      exact Memref.write_access_unit_zero_univ (Elt F) cc0_scratch3 (by funext a; fin_cases a <;> rfl) _ _ _] at h
    refine h.trans (wand_mono_left (wand_mono_right ?_))
    rw [wp_ret]
    exact fupd_intro

section Tiles

variable {acc : Memref sig .tc .vmem S1024x1024 .f32} (A : AccRule (F := F) c acc) (W1 : Vec F S2x1024x2048 .bf16) (W2 : Vec F S2x2048x1024 .bf16)
  (ld st : FVec F S1024x1024 .f32 → FVec F S1024x1024 .f32)

/-- The first quarter leaves its contribution, whatever the accumulator held. -/
theorem step_tileFirst (a : FVec F S1024x1024 .f32) (xm : FVec F S1024x1024 .bf16) (j : Fin 2) (t : Fin 4) (Φ : PUnit → sProp 𝕄) :
    iprop(w1Pt c W1 ∗ w2Pt c W2 ∗ A.pt a) ⊢ iprop(((w1Pt c W1 ∗ w2Pt c W2 ∗ A.pt (st (quarter W1 W2 xm j t))) -∗ Φ ⟨⟩) -∗ WP c (tileFirst acc st xm j t) Φ) := by
  unfold tileFirst
  iintro ⟨H1, H2, Ha⟩ Hk
  iapply (step_loadW1 c _ Φ W1 j t) $$ H1; iintro H1
  iapply (step_loadW2 c _ Φ W2 j t) $$ H2; iintro H2
  iapply (A.load _ Φ a) $$ Ha; iintro Ha
  iapply (A.store a _ Φ) $$ Ha; iintro Ha
  iapply Hk; iframe H1 H2
  unfold quarter
  iexact Ha

/-- A later quarter adds its contribution. -/
theorem step_tileNext (a : FVec F S1024x1024 .f32) (xm : FVec F S1024x1024 .bf16) (j : Fin 2) (t : Fin 4) (Φ : PUnit → sProp 𝕄) :
    iprop(w1Pt c W1 ∗ w2Pt c W2 ∗ A.pt a) ⊢ iprop(((w1Pt c W1 ∗ w2Pt c W2 ∗ A.pt (plus W1 W2 ld st a xm j t)) -∗ Φ ⟨⟩) -∗ WP c (tileNext acc ld st xm j t) Φ) := by
  unfold tileNext
  iintro ⟨H1, H2, Ha⟩ Hk
  iapply (step_loadW1 c _ Φ W1 j t) $$ H1; iintro H1
  iapply (step_loadW2 c _ Φ W2 j t) $$ H2; iintro H2
  iapply (A.load _ Φ a) $$ Ha; iintro Ha
  iapply (A.load _ Φ a) $$ Ha; iintro Ha
  iapply (A.store a _ Φ) $$ Ha; iintro Ha
  iapply Hk; iframe H1 H2
  unfold plus quarter
  iexact Ha

variable (z : BitVec 32) (s : Fin 4) (q : PosShare TreeShare) (X : Vec F S1x1024x1152 .bf16) (j : Fin 2)

/-- The chunk in a slot, loaded. -/
theorem step_loadX {α : Type} (k : Vec F S1x1024x1152 .bf16 → KP F α) (Q : α → sProp 𝕄) :
    xgPt c s q X ⊢ iprop((xgPt c s q X -∗ WP c (k X) Q) -∗ WP c (loadXg s >>= k) Q) := by
  have h := step_loadXg c k Q s q (xgBuf X)
  rw [xg_read] at h
  exact h

/-- An expert's block on a chunk, overwriting the accumulator. -/
theorem step_expertFirst (a : FVec F S1024x1024 .f32) (Φ : PUnit → sProp 𝕄) :
    iprop(w1Pt c W1 ∗ w2Pt c W2 ∗ xgPt c s q X ∗ A.pt a)
      ⊢ iprop(((w1Pt c W1 ∗ w2Pt c W2 ∗ xgPt c s q X ∗ A.pt (firstV W1 W2 ld st z X j)) -∗ Φ ⟨⟩) -∗ WP c (expertFirst acc ld st z s j) Φ) := by
  unfold expertFirst
  iintro ⟨H1, H2, Hx, Ha⟩ Hk
  iapply (step_loadX c s q X _ Φ) $$ Hx; iintro Hx
  iapply (head c (step_tileFirst c A W1 W2 st a _ j 0) _ Φ) $$ [H1 H2 Ha]
  · iframe H1 H2; iexact Ha
  iintro ⟨H1, H2, Ha⟩
  iapply (head c (step_tileNext c A W1 W2 ld st _ _ j 1) _ Φ) $$ [H1 H2 Ha]
  · iframe H1 H2; iexact Ha
  iintro ⟨H1, H2, Ha⟩
  iapply (head c (step_tileNext c A W1 W2 ld st _ _ j 2) _ Φ) $$ [H1 H2 Ha]
  · iframe H1 H2; iexact Ha
  iintro ⟨H1, H2, Ha⟩
  iapply (step_tileNext c A W1 W2 ld st _ _ j 3 Φ) $$ [H1 H2 Ha]
  · iframe H1 H2; iexact Ha
  iintro ⟨H1, H2, Ha⟩
  iapply Hk; iframe H1 H2 Hx
  unfold firstV
  iexact Ha

/-- An expert's block on a chunk, added to the accumulator. -/
theorem step_expertNext (a : FVec F S1024x1024 .f32) (Φ : PUnit → sProp 𝕄) :
    iprop(w1Pt c W1 ∗ w2Pt c W2 ∗ xgPt c s q X ∗ A.pt a)
      ⊢ iprop(((w1Pt c W1 ∗ w2Pt c W2 ∗ xgPt c s q X ∗ A.pt (nextV W1 W2 ld st a z X j)) -∗ Φ ⟨⟩) -∗ WP c (expertNext acc ld st z s j) Φ) := by
  unfold expertNext
  iintro ⟨H1, H2, Hx, Ha⟩ Hk
  iapply (step_loadX c s q X _ Φ) $$ Hx; iintro Hx
  iapply (head c (step_tileNext c A W1 W2 ld st a _ j 0) _ Φ) $$ [H1 H2 Ha]
  · iframe H1 H2; iexact Ha
  iintro ⟨H1, H2, Ha⟩
  iapply (head c (step_tileNext c A W1 W2 ld st _ _ j 1) _ Φ) $$ [H1 H2 Ha]
  · iframe H1 H2; iexact Ha
  iintro ⟨H1, H2, Ha⟩
  iapply (head c (step_tileNext c A W1 W2 ld st _ _ j 2) _ Φ) $$ [H1 H2 Ha]
  · iframe H1 H2; iexact Ha
  iintro ⟨H1, H2, Ha⟩
  iapply (step_tileNext c A W1 W2 ld st _ _ j 3 Φ) $$ [H1 H2 Ha]
  · iframe H1 H2; iexact Ha
  iintro ⟨H1, H2, Ha⟩
  iapply Hk; iframe H1 H2 Hx
  unfold nextV
  iexact Ha

end Tiles

/-- Both local experts on a chunk, into the partial accumulator. -/
theorem step_experts (W1 : Vec F S2x1024x2048 .bf16) (W2 : Vec F S2x2048x1024 .bf16) (z : BitVec 32) (s : Fin 4) (q : PosShare TreeShare)
    (X : Vec F S1x1024x1152 .bf16) (a : FVec F S1024x1024 .f32) (Φ : PUnit → sProp 𝕄) :
    iprop(w1Pt c W1 ∗ w2Pt c W2 ∗ xgPt c s q X ∗ (paccRule c).pt a)
      ⊢ iprop(((w1Pt c W1 ∗ w2Pt c W2 ∗ xgPt c s q X ∗ (paccRule c).pt (bothV W1 W2 z X)) -∗ Φ ⟨⟩) -∗ WP c (experts z s) Φ) := by
  unfold experts
  iintro ⟨H1, H2, Hx, Ha⟩ Hk
  iapply (head c (step_expertFirst c (paccRule c) W1 W2 _ _ z s q X 0 a) _ Φ) $$ [H1 H2 Hx Ha]
  · iframe H1 H2 Hx; iexact Ha
  iintro ⟨H1, H2, Hx, Ha⟩
  iapply (step_expertNext c (paccRule c) W1 W2 _ _ z s q X 1 _ Φ) $$ [H1 H2 Hx Ha]
  · iframe H1 H2 Hx; iexact Ha
  iintro ⟨H1, H2, Hx, Ha⟩
  iapply Hk; iframe H1 H2 Hx
  unfold bothV
  iexact Ha

/-- The slab stored into slot 0. -/
theorem step_storeSlab (S : Vec F S1024x1152 .bf16) (f : cc0_scratch0.ty.Contents (Elt F)) (Φ : PUnit → sProp 𝕄) :
    iprop(slabPt c S ∗ xgRaw c 0 fullShare f) ⊢ iprop(((slabPt c S ∗ xgPt c 0 fullShare (slabOf S)) -∗ Φ ⟨⟩) -∗ WP c storeSlab Φ) := by
  unfold storeSlab
  iintro ⟨HS, Hx⟩ Hk
  iapply (step_loadSlab c _ Φ S) $$ HS; iintro HS
  iapply (step_loadXg c _ Φ 0 fullShare f) $$ Hx; iintro Hx
  iapply (step_storeXg0 c .ret Φ f (slabOf S)) $$ Hx; iintro Hx
  iapply (done c PUnit.unit Φ)
  iapply Hk; iframe HS
  iexact Hx

end Cert.KernelIdeal.Ring

end
-- ==== Proof.Body.lean ====
/-
  The body of one device: what it computes, and its run from the entry barrier to the last copy awaited.
-/
module

public import proofs.«01_k».proof.Proof.Compute

@[expose] public section

set_option maxRecDepth 16384

noncomputable section

namespace Cert.KernelIdeal.Ring

open Cert.KernelIdeal Cert.KernelIdeal.Gen Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the devices compute -/

section Values
variable (S : Dev nD → Vec F S1024x1152 .bf16) (W1 : Dev nD → Vec F S2x1024x2048 .bf16) (W2 : Dev nD → Vec F S2x2048x1024 .bf16)

/-- The chunk of the device `s` places back, as a slot holds it. -/
def chunkV (s : ℕ) (c : Dev nD) : Vec F S1x1024x1152 .bf16 := slabOf (S (prv^[s] c))

/-- Device `c`'s two experts' sum on the chunk of the device `s` places back. -/
def accV (s : ℕ) (c : Dev nD) : FVec F S1024x1024 .f32 := bothV (W1 c) (W2 c) (zWord c) (chunkV S s c)

/-- The partial sum each hop of the reduction sends. -/
def part0 (c : Dev nD) : FVec F S1x1024x1024 .bf16 := wire (accV S W1 W2 1 c)
def part1 (c : Dev nD) : FVec F S1x1024x1024 .bf16 := wire (addf (accV S W1 W2 2 c) (unwire (part0 S W1 W2 (prv c))))
def part2 (c : Dev nD) : FVec F S1x1024x1024 .bf16 := wire (addf (accV S W1 W2 3 c) (unwire (part1 S W1 W2 (prv c))))

/-- What the devices send. -/
def sent : Sent F where
  own c := slabOf (S c)
  part s := match s with
    | 0 => part0 S W1 W2
    | 1 => part1 S W1 W2
    | 2 => part2 S W1 W2

/-- A device's two experts' sum on its own chunk, kept in the result's window. -/
def ownFirst (c : Dev nD) : FVec F S1024x1024 .f32 := firstV (W1 c) (W2 c) recast (fun v => v) (zWord c) (chunkV S 0 c) 0
def ownV (c : Dev nD) : FVec F S1024x1024 .f32 := nextV (W1 c) (W2 c) recast (fun v => v) (ownFirst S W1 W2 c) (zWord c) (chunkV S 0 c) 1

/-- Device `c`'s result. -/
def outV (c : Dev nD) : FVec F S1024x1024 .f32 := addf (recast (ownV S W1 W2 c)) (unwire (part2 S W1 W2 (prv c)))

end Values

/-! ## What the body starts and ends with -/

/-- One hop's own cells at the start, and what they end as. -/
def hopCells (c : Dev nD) (s : Fin 3) : sProp 𝕄 :=
  iprop(atPos ER (agSCell c s) 0 ∅ 0 ∗ atPos ER (agRCell c s) 0 ∅ 0 ∗ atPos ER (rsSCell c s) 0 ∅ 0 ∗ atPos ER (rsRCell c s) 0 ∅ 0)
def hopSeen (c : Dev nD) (s : Fin 3) : sProp 𝕄 :=
  iprop(reached ER (agSCell c s) 0 ∗ reached ER (agRCell c s) 0 ∗ reached ER (rsSCell c s) 0 ∗ reached ER (rsRCell c s) 0)
def hopToks (c : Dev nD) (s : Fin 3) : sProp 𝕄 :=
  iprop(dutyTok ER (agSCell c s) 0 false ∗ dutyTok ER (agRCell (nxt c) s) 0 false ∗ dutyTok ER (rsSCell c s) 0 false ∗ dutyTok ER (rsRCell (nxt c) s) 0 false)
def hopCreds (c : Dev nD) (s : Fin 3) : sProp 𝕄 := iprop(cred (tallyAt (agRCell c s) () N₁) ∗ cred (tallyAt (rsRCell c s) () N₂))
def hopZero (c : Dev nD) (s : Fin 3) : sProp 𝕄 :=
  iprop(semVal (agSCell c s) 0 ∗ semVal (agRCell c s) 0 ∗ semVal (rsSCell c s) 0 ∗ semVal (rsRCell c s) 0)

instance hopSeen_persistent (c : Dev nD) (s : Fin 3) : BI.Persistent (hopSeen (F := F) c s) := by unfold hopSeen; infer_instance

/-- The scratch buffers, slot by slot, at whatever they hold. -/
def scratch (c : Dev nD) : sProp 𝕄 :=
  iprop(((∃ f, xgRaw c 0 fullShare f) ∗ (∃ f, xgRaw c 1 fullShare f) ∗ (∃ f, xgRaw c 2 fullShare f) ∗ (∃ f, xgRaw c 3 fullShare f))
    ∗ ((∃ f, rsRaw c 0 f) ∗ (∃ f, rsRaw c 1 f)) ∗ ((∃ f, rvRaw c 0 f) ∗ (∃ f, rvRaw c 1 f) ∗ (∃ f, rvRaw c 2 f))
    ∗ (∃ f, (paccRule c).pt f))

/-- What a device knows of the barriers, and its duties there. -/
def barIn (c : Dev nD) : sProp 𝕄 :=
  iprop(atPos ER (barCell c) 0 ∅ 0 ∗ reached ER (barCell (prv c)) 0 ∗ reached ER (barCell (nxt c)) 0
    ∗ dutyTok ER (barCell (prv c)) 0 false ∗ dutyTok ER (barCell (nxt c)) 0 true)

/-- Two halves of a slot's share. -/
theorem xg_halves (c : Dev nD) (s : Fin 4) (f : cc0_scratch0.ty.Contents (Elt F)) :
    (xgRaw c s fullShare f : sProp 𝕄) ⊣⊢ iprop(xgRaw c s lentQ f ∗ xgRaw c s keptQ f) :=
  pointsTo_share (PosShare.mem_left_op_right fullShare)

/-- A chunk that arrived, in halves. -/
theorem split_at (S : Dev nD → Vec F S1024x1152 .bf16) (W1 : Dev nD → Vec F S2x1024x2048 .bf16) (W2 : Dev nD → Vec F S2x2048x1024 .bf16) (c : Dev nD)
    (s : Fin 3) (s' : Fin 4) (n : ℕ) (hs : s.succ = s') (hn : s.val + 1 = n) :
    (xgPt c s.succ fullShare (chunk (sent S W1 W2) (s.val + 1) c) : sProp 𝕄) ⊢ iprop(xgPt c s' lentQ (chunkV S n c) ∗ xgPt c s' keptQ (chunkV S n c)) := by
  subst hs hn
  exact (xg_halves c s.succ _).1

/-- A cell whose one round is over gives its counter back, at zero. -/
theorem close (Sn : Sent F) (κ : ℕ) (g : GSem nD τ sig) :
    iprop(cellInv ER (Rd Sn) κ g ∗ atPos ER g 1 ∅ 0) ⊢ (|={Set.univ}=> semVal g 0 : sProp 𝕄) :=
  Rounds.cell_close ER (Rd Sn) (Set.mem_univ κ) id (duties_later Sn g)

/-- The four cells of a hop. -/
theorem close_hop (Sn : Sent F) (κ : GSem nD τ sig → ℕ) (c : Dev nD) (s : Fin 3) :
    iprop(invs Sn κ ∗ atPos ER (agSCell c s) 1 ∅ 0 ∗ atPos ER (agRCell c s) 1 ∅ 0 ∗ atPos ER (rsSCell c s) 1 ∅ 0 ∗ atPos ER (rsRCell c s) 1 ∅ 0)
      ⊢ (|={Set.univ}=> hopZero c s : sProp 𝕄) := by
  iintro ⟨#HI, H1, H2, H3, H4⟩
  imod (close Sn (κ (agSCell c s)) (agSCell c s)) $$ [H1] with Z1
  · isplitr; · iapply (inv_agS Sn κ c s); iexact HI
    iexact H1
  imod (close Sn (κ (agRCell c s)) (agRCell c s)) $$ [H2] with Z2
  · isplitr; · iapply (inv_agR Sn κ c s); iexact HI
    iexact H2
  imod (close Sn (κ (rsSCell c s)) (rsSCell c s)) $$ [H3] with Z3
  · isplitr; · iapply (inv_rsS Sn κ c s); iexact HI
    iexact H3
  imod (close Sn (κ (rsRCell c s)) (rsRCell c s)) $$ [H4] with Z4
  · isplitr; · iapply (inv_rsR Sn κ c s); iexact HI
    iexact H4
  imodintro
  unfold hopZero
  iframe Z1 Z2 Z3
  iexact Z4

theorem below (c : Dev nD) (sm : SemLoc sig) (l : List (GSem nD τ sig × ℕ)) (n : ℕ) (hs : lv ((c : Thread nD τ), sm) () = n)
    (h : ∀ p ∈ l, p.1.1.2 = .tc ∧ n < lv p.1 ()) : ∀ p ∈ l, p.1.1.2 = .tc ∧ lv ((c : Thread nD τ), sm) () < lv p.1 () := by
  rw [hs]; exact h

section Run
variable (κ : GSem nD τ sig → ℕ) (c : Dev nD)
variable (S : Dev nD → Vec F S1024x1152 .bf16) (W1 : Dev nD → Vec F S2x1024x2048 .bf16) (W2 : Dev nD → Vec F S2x2048x1024 .bf16)

/-- What device `c`'s body starts with. -/
def bodyPre : sProp 𝕄 :=
  iprop(invs (sent S W1 W2) κ ∗ levAts L lv ∗ barIn c ∗ (hopCells c 0 ∗ hopCells c 1 ∗ hopCells c 2) ∗ (hopSeen c 0 ∗ hopSeen c 1 ∗ hopSeen c 2)
    ∗ (hopToks c 0 ∗ hopToks c 1 ∗ hopToks c 2) ∗ cred (tallyAt (barCell c) () 2) ∗ (hopCreds c 0 ∗ hopCreds c 1 ∗ hopCreds c 2)
    ∗ ow c (payments c) ∗ slabPt c (S c) ∗ w1Pt c (W1 c) ∗ w2Pt c (W2 c) ∗ (∃ f, (outRule c).pt f) ∗ scratch c)

/-- What it ends with. -/
def bodyPost : sProp 𝕄 :=
  iprop(semVal (barCell c) 0 ∗ (hopZero c 0 ∗ hopZero c 1 ∗ hopZero c 2)
    ∗ ow c [] ∗ slabPt c (S c) ∗ w1Pt c (W1 c) ∗ w2Pt c (W2 c) ∗ (outRule c).pt (outV S W1 W2 c) ∗ scratch c)

set_option maxHeartbeats 4000000 in
/-- The body's run. -/
theorem run_body (Φ : PUnit → sProp 𝕄) : iprop(bodyPre κ c S W1 W2 ∗ (bodyPost c S W1 W2 -∗ Φ ⟨⟩)) ⊢ WP c (ringProg (F := F)) Φ := by
  unfold ringProg
  show _ ⊢ WP c (.op .deviceId fun d => ringBody d) Φ
  unfold WP
  rw [wp_deviceId]
  show _ ⊢ WP c (ringBody c) Φ
  unfold ringBody
  rw [dev1_eq, dev2_eq, dev3_eq, dev4_eq, dev5_eq, dev6_eq, dev7_eq, dev8_eq]
  unfold bodyPre barIn hopCells hopToks hopCreds scratch
  iintro ⟨⟨#HI, #Hlev, ⟨HatB, #HrBp, #HrBn, HtBp, HtBn⟩,
    ⟨⟨AS0, AR0, RS0, RR0⟩, ⟨AS1, AR1, RS1, RR1⟩, ⟨AS2, AR2, RS2, RR2⟩⟩, ⟨#Hs0, #Hs1, #Hs2⟩,
    ⟨⟨TA0, TB0, TC0, TD0⟩, ⟨TA1, TB1, TC1, TD1⟩, ⟨TA2, TB2, TC2, TD2⟩⟩, HcB, ⟨⟨CA0, CR0⟩, ⟨CA1, CR1⟩, ⟨CA2, CR2⟩⟩,
    HO, HS, H1, H2, ⟨%o, Hout⟩, ⟨⟨X0, X1, X2, X3⟩, ⟨⟨%r0, P0⟩, ⟨%r1, P1⟩⟩, ⟨V0, V1, V2⟩, ⟨%p, Hacc⟩⟩⟩, Hk⟩
  icases X0 with ⟨%x0, X0⟩
  unfold payments hopSeen
  icases Hs0 with ⟨#SA0, #SB0, #SC0, #SD0⟩
  icases Hs1 with ⟨#SA1, #SB1, #SC1, #SD1⟩
  icases Hs2 with ⟨#SA2, #SB2, #SC2, #SD2⟩
  -- the entry barrier
  iapply (step_barrier (sent S W1 W2) κ c [(agRCell (nxt c) 0, N₁), (agRCell (nxt c) 1, N₁), (rsRCell (nxt c) 0, N₂), (agRCell (nxt c) 2, N₁), (rsRCell (nxt c) 1, N₂), (rsRCell (nxt c) 2, N₂)] _ Φ (by simp [lv_bar, lv_agR, lv_rsR])) $$ [HcB HO HatB HtBp HtBn X1 X2 X3 V0 V1 V2]
  · iframe HI Hlev HcB HO HatB HtBp HrBp HtBn HrBn
    unfold hop
    isplitl [X1 V0]; · iframe X1 V0 SB0; iexact SD0
    isplitl [X2 V1]; · iframe X2 V1 SB1; iexact SD1
    iframe X3 V2 SB2; iexact SD2
  iintro ⟨HO, HatB, N0, N1, N2⟩
  unfold hop
  icases N0 with ⟨NX0, NV0, #NA0, #NR0⟩
  icases N1 with ⟨NX1, NV1, #NA1, #NR1⟩
  icases N2 with ⟨NX2, NV2, #NA2, #NR2⟩
  -- the own chunk
  iapply (head c (step_storeSlab c (S c) x0) _ Φ) $$ [HS X0]
  · iframe HS; iexact X0
  iintro ⟨HS, X0⟩
  ihave X0 := (xg_halves c 0 _).1 $$ X0
  icases X0 with ⟨X0l, X0⟩
  iapply (step_sendAg (sent S W1 W2) κ c [(agRCell (nxt c) 1, N₁), (rsRCell (nxt c) 0, N₂), (agRCell (nxt c) 2, N₁), (rsRCell (nxt c) 1, N₂), (rsRCell (nxt c) 2, N₂)] 0 _ Φ) $$ [X0l NX0 HO TA0 TB0]
  · iframe HI NX0 HO TA0 SA0 TB0 NA0; iexact X0l
  iintro ⟨CS0, HO⟩
  iapply (head c (step_expertFirst c (outRule c) (W1 c) (W2 c) _ _ (zWord c) 0 keptQ (chunkV S 0 c) 0 o) _ Φ) $$ [H1 H2 X0 Hout]
  · iframe H1 H2 Hout; iexact X0
  iintro ⟨H1, H2, X0, Hout⟩
  -- hop 1 of the chunks
  iapply (step_recvAg (sent S W1 W2) κ c [(agRCell (nxt c) 1, N₁), (rsRCell (nxt c) 0, N₂), (agRCell (nxt c) 2, N₁), (rsRCell (nxt c) 1, N₂), (rsRCell (nxt c) 2, N₂)] 0 _ Φ (by simp [lv_agR, lv_rsR])) $$ [CA0 HO AR0]
  · iframe HI Hlev CA0 HO; iexact AR0
  iintro ⟨HO, AR0, X1⟩
  ihave X1 := (split_at S W1 W2 c 0 1 1 rfl rfl) $$ X1
  icases X1 with ⟨X1l, X1⟩
  iapply (step_sendAg (sent S W1 W2) κ c [(rsRCell (nxt c) 0, N₂), (agRCell (nxt c) 2, N₁), (rsRCell (nxt c) 1, N₂), (rsRCell (nxt c) 2, N₂)] 1 _ Φ) $$ [X1l NX1 HO TA1 TB1]
  · iframe HI NX1 HO TA1 SA1 TB1 NA1; iexact X1l
  iintro ⟨CS1, HO⟩
  iapply (head c (step_experts c (W1 c) (W2 c) (zWord c) 1 keptQ (chunkV S 1 c) p) _ Φ) $$ [H1 H2 X1 Hacc]
  · iframe H1 H2 Hacc; iexact X1
  iintro ⟨H1, H2, X1, Hacc⟩
  iapply ((paccRule c).load _ Φ _) $$ Hacc; iintro Hacc
  iapply (step_loadRs c _ Φ 0 r0) $$ P0; iintro P0
  iapply (step_storeRs c _ Φ 0 r0 _) $$ P0; iintro P0
  iapply (step_sendRs (sent S W1 W2) κ c [(agRCell (nxt c) 2, N₁), (rsRCell (nxt c) 1, N₂), (rsRCell (nxt c) 2, N₂)] 0 _ Φ) $$ [P0 NV0 HO TC0 TD0]
  · iframe HI NV0 HO TC0 SC0 TD0 NR0; iexact P0
  iintro ⟨CP0, HO⟩
  -- hop 2
  iapply (step_recvAg (sent S W1 W2) κ c [(agRCell (nxt c) 2, N₁), (rsRCell (nxt c) 1, N₂), (rsRCell (nxt c) 2, N₂)] 1 _ Φ (by simp [lv_agR, lv_rsR])) $$ [CA1 HO AR1]
  · iframe HI Hlev CA1 HO; iexact AR1
  iintro ⟨HO, AR1, X2⟩
  ihave X2 := (split_at S W1 W2 c 1 2 2 rfl rfl) $$ X2
  icases X2 with ⟨X2l, X2⟩
  iapply (step_sendAg (sent S W1 W2) κ c [(rsRCell (nxt c) 1, N₂), (rsRCell (nxt c) 2, N₂)] 2 _ Φ) $$ [X2l NX2 HO TA2 TB2]
  · iframe HI NX2 HO TA2 SA2 TB2 NA2; iexact X2l
  iintro ⟨CS2, HO⟩
  iapply (head c (step_experts c (W1 c) (W2 c) (zWord c) 2 keptQ (chunkV S 2 c) _) _ Φ) $$ [H1 H2 X2 Hacc]
  · iframe H1 H2 Hacc; iexact X2
  iintro ⟨H1, H2, X2, Hacc⟩
  iapply (step_recvRs (sent S W1 W2) κ c [(rsRCell (nxt c) 1, N₂), (rsRCell (nxt c) 2, N₂)] 0 _ Φ (by simp [lv_agR, lv_rsR])) $$ [CR0 HO RR0]
  · iframe HI Hlev CR0 HO; iexact RR0
  iintro ⟨HO, RR0, V0⟩
  iapply ((paccRule c).load _ Φ _) $$ Hacc; iintro Hacc
  iapply (step_loadRv c _ Φ 0 _) $$ V0; iintro V0
  iapply (step_loadRs c _ Φ 1 r1) $$ P1; iintro P1
  iapply (step_storeRs c _ Φ 1 r1 _) $$ P1; iintro P1
  iapply (step_sendRs (sent S W1 W2) κ c [(rsRCell (nxt c) 2, N₂)] 1 _ Φ) $$ [P1 NV1 HO TC1 TD1]
  · iframe HI NV1 HO TC1 SC1 TD1 NR1; iexact P1
  iintro ⟨CP1, HO⟩
  -- hop 3
  iapply (step_recvAg (sent S W1 W2) κ c [(rsRCell (nxt c) 2, N₂)] 2 _ Φ (by simp [lv_agR, lv_rsR])) $$ [CA2 HO AR2]
  · iframe HI Hlev CA2 HO; iexact AR2
  iintro ⟨HO, AR2, X3⟩
  iapply (head c (step_experts c (W1 c) (W2 c) (zWord c) 3 fullShare (chunkV S 3 c) _) _ Φ) $$ [H1 H2 X3 Hacc]
  · iframe H1 H2 Hacc; iexact X3
  iintro ⟨H1, H2, X3, Hacc⟩
  iapply (step_recvRs (sent S W1 W2) κ c [(rsRCell (nxt c) 2, N₂)] 1 _ Φ (by simp [lv_agR, lv_rsR])) $$ [CR1 HO RR1]
  · iframe HI Hlev CR1 HO; iexact RR1
  iintro ⟨HO, RR1, V1⟩
  iapply ((paccRule c).load _ Φ _) $$ Hacc; iintro Hacc
  iapply (step_loadRv c _ Φ 1 _) $$ V1; iintro V1
  iapply (step_doneRs (sent S W1 W2) κ c [(rsRCell (nxt c) 2, N₂)] 0 _ Φ (by simp [lv_rsS, lv_rsR])) $$ [CP0 HO RS0]
  · iframe HI Hlev CP0 HO; iexact RS0
  iintro ⟨HO, RS0, P0⟩
  ihave P0 := (show rsPt c (par 0) ((sent S W1 W2).part 0 c) ⊢ rsRaw c 0 (rsBuf (part0 S W1 W2 c)) from BI.Entails.refl _) $$ P0
  iapply (step_loadRs c _ Φ 0 (rsBuf (part0 S W1 W2 c))) $$ P0; iintro P0
  iapply (step_storeRs c _ Φ 0 (rsBuf (part0 S W1 W2 c)) _) $$ P0; iintro P0
  iapply (step_sendRs (sent S W1 W2) κ c [] 2 _ Φ) $$ [P0 NV2 HO TC2 TD2]
  · iframe HI NV2 HO TC2 SC2 TD2 NR2; iexact P0
  iintro ⟨CP2, HO⟩
  -- the own chunk's second expert, and the result
  iapply (head c (step_expertNext c (outRule c) (W1 c) (W2 c) _ _ (zWord c) 0 keptQ (chunkV S 0 c) 1 _) _ Φ) $$ [H1 H2 X0 Hout]
  · iframe H1 H2 Hout; iexact X0
  iintro ⟨H1, H2, X0, Hout⟩
  iapply (step_recvRs (sent S W1 W2) κ c [] 2 _ Φ (by simp)) $$ [CR2 HO RR2]
  · iframe HI Hlev CR2 HO; iexact RR2
  iintro ⟨HO, RR2, V2⟩
  iapply ((outRule c).load _ Φ _) $$ Hout; iintro Hout
  iapply (step_loadRv c _ Φ 2 _) $$ V2; iintro V2
  iapply ((outRule c).load _ Φ _) $$ Hout; iintro Hout
  iapply (head c ((outRule c).store _ _) _ Φ) $$ Hout; iintro Hout
  -- the copies all done
  iapply (step_doneAg (sent S W1 W2) κ c [] 0 _ Φ (by simp)) $$ [CS0 HO AS0]
  · iframe HI Hlev CS0 HO; iexact AS0
  iintro ⟨HO, AS0, X0l⟩
  iapply (step_doneAg (sent S W1 W2) κ c [] 1 _ Φ (by simp)) $$ [CS1 HO AS1]
  · iframe HI Hlev CS1 HO; iexact AS1
  iintro ⟨HO, AS1, X1l⟩
  iapply (step_doneAg (sent S W1 W2) κ c [] 2 _ Φ (by simp)) $$ [CS2 HO AS2]
  · iframe HI Hlev CS2 HO; iexact AS2
  iintro ⟨HO, AS2, X2l⟩
  iapply (step_doneRs (sent S W1 W2) κ c [] 1 _ Φ (by simp)) $$ [CP1 HO RS1]
  · iframe HI Hlev CP1 HO; iexact RS1
  iintro ⟨HO, RS1, P1⟩
  iapply (step_doneRs (sent S W1 W2) κ c [] 2 .ret Φ (by simp)) $$ [CP2 HO RS2]
  · iframe HI Hlev CP2 HO; iexact RS2
  iintro ⟨HO, RS2, P0⟩
  -- the cells closed
  unfold WP
  rw [wp_ret]
  imod (close (sent S W1 W2) (κ (barCell c)) (barCell c)) $$ [HatB] with ZB
  · isplitr; · iapply (inv_bar (sent S W1 W2) κ c); iexact HI
    iexact HatB
  imod (close_hop (sent S W1 W2) κ c 0) $$ [AS0 AR0 RS0 RR0] with Z0
  · iframe HI AS0 AR0 RS0; iexact RR0
  imod (close_hop (sent S W1 W2) κ c 1) $$ [AS1 AR1 RS1 RR1] with Z1
  · iframe HI AS1 AR1 RS1; iexact RR1
  imod (close_hop (sent S W1 W2) κ c 2) $$ [AS2 AR2 RS2 RR2] with Z2
  · iframe HI AS2 AR2 RS2; iexact RR2
  imodintro
  iapply Hk
  unfold bodyPost scratch
  iframe ZB Z0 Z1 Z2 HO HS H1 H2
  rw [show outV S W1 W2 c = addf (recast (nextV (W1 c) (W2 c) recast (fun v => v) (firstV (W1 c) (W2 c) recast (fun v => v) (zWord c) (chunkV S 0 c) 0)
    (zWord c) (chunkV S 0 c) 1)) (unwire ((sent S W1 W2).part 2 (prv c))) from rfl]
  isplitl [Hout]; · iexact Hout
  isplitl [X0 X0l X1 X1l X2 X2l X3]
  · isplitl [X0 X0l]; · iexists _; iapply (xg_halves c 0 _).2; iframe X0l; iexact X0
    isplitl [X1 X1l]; · iexists _; iapply (xg_halves c 1 _).2; iframe X1l; iexact X1
    isplitl [X2 X2l]; · iexists _; iapply (xg_halves c 2 _).2; iframe X2l; iexact X2
    iexists _; iexact X3
  isplitl [P0 P1]
  · isplitl [P0]; · iexists _; iexact P0
    iexists _; iexact P1
  isplitl [V0 V1 V2]
  · isplitl [V0]; · iexists _; iexact V0
    isplitl [V1]; · iexists _; iexact V1
    iexists _; iexact V2
  iexists _; iexact Hacc

end Run

end Cert.KernelIdeal.Ring

end
-- ==== Proof.Region.lean ====
/-
  The launch that moves the chunks, as a region of the program: what it finds, what it leaves, and its body.
-/
module

public import proofs.«01_k».proof.Proof.Body
public import proofs.«01_k».proof.Proof.Gen.KernelIdeal.Frame
public import Idealize.ShloMosaic.Lib.Pipeline.RegionTalk
public import Idealize.ShloMosaic.Lib.Pipeline.ValueKit.Geometry

@[expose] public section

set_option maxRecDepth 16384

noncomputable section

namespace Cert.KernelIdeal.Ring

open Cert.KernelIdeal Cert.KernelIdeal.Gen Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## What the region finds -/

/-- The buffers of the program; a device's at launch; after the host operations. -/
def bufs : Finset (DevRef τ sig) := (StableHlo.tcRefs τ sig).filter fun b => ¬ b.isScoped
def V₀ (c : Dev nD) : Valuation τ sig (Elt F) := fun b => m (c, b)
def V₁ (c : Dev nD) : Valuation τ sig (Elt F) := StableHlo.after hostOps0 (V₀ m c)

/-- The slab and the weights each device holds. -/
def slabs (c : Dev nD) : Vec F S1024x1152 .bf16 := V₁ m c (Proc.devRef .tc main_v8)
def wts1 (c : Dev nD) : Vec F S2x1024x2048 .bf16 := V₁ m c (Proc.devRef .tc main_arg2)
def wts2 (c : Dev nD) : Vec F S2x2048x1024 .bf16 := V₁ m c (Proc.devRef .tc main_arg3)

/-- Device `c`'s result, in what its memory and the other devices' held at launch. -/
def result (c : Dev nD) : FVec F S1024x1024 .f32 := outV (slabs m) (wts1 m) (wts2 m) c

/-- The buffers after the region. -/
def V₂ (c : Dev nD) : Valuation τ sig (Elt F) := Function.update (V₁ m c) (Proc.devRef .tc main_v9) (result m c)

theorem V₂_ne (c : Dev nD) (b : DevRef τ sig) (h : b ≠ Proc.devRef .tc main_v9) : V₂ m c b = V₁ m c b := Function.update_of_ne h _ _
theorem V₂_v9 (c : Dev nD) : V₂ m c (Proc.devRef .tc main_v9) = result m c := Function.update_self _ _ _

/-! ## The region's data -/

/-- What enters the body's invariant beside the scratch buffers, and what it gives back. -/
def kept (c : Dev nD) : sProp 𝕄 :=
  iprop((∃ κ, invs (sent (slabs m) (wts1 m) (wts2 m)) κ) ∗ levAts L lv ∗ barIn c ∗ (hopCells c 0 ∗ hopCells c 1 ∗ hopCells c 2)
    ∗ (hopSeen c 0 ∗ hopSeen c 1 ∗ hopSeen c 2) ∗ (hopToks c 0 ∗ hopToks c 1 ∗ hopToks c 2)
    ∗ cred (tallyAt (barCell c) () 2) ∗ (hopCreds c 0 ∗ hopCreds c 1 ∗ hopCreds c 2))
def left (c : Dev nD) : sProp 𝕄 := iprop(semVal (barCell c) 0 ∗ (hopZero c 0 ∗ hopZero c 1 ∗ hopZero c 2))

/-- The proof data: the arrays as the host operations leave them, the result's block after the one point. -/
def dat0 (c : Dev nD) : Dat τ (Elt F) Unit ℕ UU ℕ cfg0 c where
  A w := V₁ m c (Proc.devRef .tc (Pipeline.arrRef spec0 w))
  after := fun
    | 0 => fun _ => slabs m c
    | 1 => fun _ => wts1 m c
    | 2 => fun _ => wts2 m c
    | 3 => fun _ => result m c
    | ⟨_ + 4, h⟩ => absurd h (Nat.not_lt.2 (Nat.le_add_left _ _))
  Φ t := if t.val = 0 then iprop(kept m c ∗ scratch c ∗ ∃ r, prngReg c r) else iprop(left c ∗ scratch c ∗ ∃ r, prngReg c r)
  q _ := fullShare
  owed t := if t.val = 0 then O₀ c else 0

theorem block0 (c : Dev nD) : (dat0 m c).blockOf 0 t0_0 = slabs m c :=
  Memref.read_access_unit_zero (Elt F) main_v8 (by funext a; fin_cases a <;> rfl) _ _
theorem block1 (c : Dev nD) : (dat0 m c).blockOf 1 t0_0 = wts1 m c :=
  Memref.read_access_unit_zero (Elt F) main_arg2 (by funext a; fin_cases a <;> rfl) _ _
theorem block2 (c : Dev nD) : (dat0 m c).blockOf 2 t0_0 = wts2 m c :=
  Memref.read_access_unit_zero (Elt F) main_arg3 (by funext a; fin_cases a <;> rfl) _ _

theorem before0 (c : Dev nD) (d) : (dat0 m c).before 0 t0_0 d = slabs m c :=
  ((dat0 m c).before_fetched 0 t0_0 (fetch0_0 _) d).trans (block0 m c)
theorem before1 (c : Dev nD) (d) : (dat0 m c).before 1 t0_0 d = wts1 m c :=
  ((dat0 m c).before_fetched 1 t0_0 (fetch0_1 _) d).trans (block1 m c)
theorem before2 (c : Dev nD) (d) : (dat0 m c).before 2 t0_0 d = wts2 m c :=
  ((dat0 m c).before_fetched 2 t0_0 (fetch0_2 _) d).trans (block2 m c)

/-- The result's array after the run. -/
theorem arr3 (c : Dev nD) : (dat0 m c).arrAt 3 cfg0.N = result m c :=
  (dat0 m c).arrAt_eq_of_after_last 3 t0_0 (by decide +kernel) _ fun j => by
    show _root_.cast _ (result m c fun a => ⟨j a, _⟩) = result m c j
    rfl

theorem owed_first (c : Dev nD) : (dat0 m c).owed t0_0.castSucc = O₀ c := by
  show (if (t0_0.castSucc : Fin (cfg0.N + 1)).val = 0 then O₀ c else 0) = O₀ c; exact if_pos rfl
theorem owed_zero (c : Dev nD) : (dat0 m c).owed 0 = O₀ c := by
  show (if ((0 : Fin (cfg0.N + 1)).val = 0) then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat0 m c).owed t = O) (W : Waits sig Unit) :
    (owes (c : Thread nD τ) O W : sProp 𝕄) ⊢ ((dat0 m c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

/-! ## The body's obligation -/

theorem stage0 (c : Dev nD) (X : Vec F S1024x1152 .bf16) :
    (owns (c : Thread nD τ) ((cfg0.win 0).stage (cfg0.slots t0_0 0)) fullShare X : sProp 𝕄) = slabPt c X := owns_whole (c : Thread nD τ) cc0_stg0_0 fullShare X
theorem stage1 (c : Dev nD) (X : Vec F S2x1024x2048 .bf16) :
    (owns (c : Thread nD τ) ((cfg0.win 1).stage (cfg0.slots t0_0 1)) fullShare X : sProp 𝕄) = w1Pt c X := owns_whole (c : Thread nD τ) cc0_stg1_0 fullShare X
theorem stage2 (c : Dev nD) (X : Vec F S2x2048x1024 .bf16) :
    (owns (c : Thread nD τ) ((cfg0.win 2).stage (cfg0.slots t0_0 2)) fullShare X : sProp 𝕄) = w2Pt c X := owns_whole (c : Thread nD τ) cc0_stg2_0 fullShare X
theorem stage3 (c : Dev nD) (X : FVec F S1024x1024 .f32) :
    (owns (c : Thread nD τ) ((cfg0.win 3).stage (cfg0.slots t0_0 3)) fullShare X : sProp 𝕄) = (outRule c).pt X := by
  unfold outRule
  exact owns_whole (Val := Elt F) (c : Thread nD τ) cc0_stg3_0 fullShare X

theorem Φ_first (c : Dev nD) : (dat0 m c).Φ t0_0.castSucc = iprop(kept m c ∗ scratch c ∗ ∃ r, prngReg c r) := rfl
theorem Φ_succ (c : Dev nD) : (dat0 m c).Φ t0_0.succ = iprop(left c ∗ scratch c ∗ ∃ r, prngReg c r) := rfl

/-- At its one point the body runs from the invariant and the staged blocks to the result in its window. -/
theorem body0 (c : Dev nD) : BodyObligation (dat0 (F := F) m c) defs₀ 𝒱₀ () Set.univ := fun t => by
  obtain rfl := fin_N0 t
  rw [bigSep_W0, bigSep_W0, Φ_first, Φ_succ]
  show iprop(_ ∗ _ ∗ (∃ d, owns (c : Thread nD τ) ((cfg0.win 0).stage (cfg0.slots t0_0 0)) fullShare ((dat0 m c).before 0 t0_0 d))
      ∗ (∃ d, owns (c : Thread nD τ) ((cfg0.win 1).stage (cfg0.slots t0_0 1)) fullShare ((dat0 m c).before 1 t0_0 d))
      ∗ (∃ d, owns (c : Thread nD τ) ((cfg0.win 2).stage (cfg0.slots t0_0 2)) fullShare ((dat0 m c).before 2 t0_0 d))
      ∗ (∃ d, owns (c : Thread nD τ) ((cfg0.win 3).stage (cfg0.slots t0_0 3)) fullShare ((dat0 m c).before 3 t0_0 d)))
    ⊢ WP c (bodyAt0 t0_0) fun _ => iprop(_ ∗ _ ∗ owns (c : Thread nD τ) ((cfg0.win 0).stage (cfg0.slots t0_0 0)) fullShare (slabs m c)
      ∗ owns (c : Thread nD τ) ((cfg0.win 1).stage (cfg0.slots t0_0 1)) fullShare (wts1 m c)
      ∗ owns (c : Thread nD τ) ((cfg0.win 2).stage (cfg0.slots t0_0 2)) fullShare (wts2 m c)
      ∗ owns (c : Thread nD τ) ((cfg0.win 3).stage (cfg0.slots t0_0 3)) fullShare (result m c))
  rw [body_eq, stage0, stage1, stage2, stage3]
  unfold kept
  iintro ⟨⟨⟨⟨%κ, #HI⟩, Hlev, Hbar, Hcells, Hseen, Htoks, HcB, Hcr⟩, Hscr, Hreg⟩, HO, ⟨%d0, H0⟩, ⟨%d1, H1⟩, ⟨%d2, H2⟩, ⟨%d3, H3⟩⟩
  ihave H0 := (Entails.of_eq ((congrArg _ (before0 m c d0)).trans (stage0 c (slabs m c)))) $$ H0
  ihave H1 := (Entails.of_eq ((congrArg _ (before1 m c d1)).trans (stage1 c (wts1 m c)))) $$ H1
  ihave H2 := (Entails.of_eq ((congrArg _ (before2 m c d2)).trans (stage2 c (wts2 m c)))) $$ H2
  ihave H3 := (Entails.of_eq (stage3 c _)) $$ H3
  ihave HO := (owesAt_elim m c _ (O₀ c) (owed_first m c)) $$ HO
  iapply (run_body κ c (slabs m) (wts1 m) (wts2 m) _)
  isplitl [Hlev Hbar Hcells Hseen Htoks HcB Hcr Hscr HO H0 H1 H2 H3]
  · unfold bodyPre
    iframe HI Hlev Hbar Hcells Hseen Htoks HcB Hcr
    isplitl [HO]; · unfold ow O₀; iexact HO
    iframe H0 H1 H2
    isplitl [H3]; · iexists _; iexact H3
    iexact Hscr
  unfold bodyPost left
  iintro ⟨ZB, Z, HO, H0, H1, H2, H3, Hscr⟩
  isplitl [ZB Z Hscr Hreg]
  · iframe ZB Z Hscr; iexact Hreg
  isplitl [HO]
  · unfold ow
    icases HO with ⟨%W, HO⟩
    iapply (owesAt_intro m c t0_0.succ 0 (owed_last m c) W); iexact HO
  iframe H0 H1 H2
  unfold result; iexact H3

end Cert.KernelIdeal.Ring

end
-- ==== Proof.Ghost.lean ====
/-
  What the devices are dealt at launch: the scratch buffers slot by slot, the duties each pays, the credit of what
  each is owed, and the cells of the copies opened at the region.
-/
module

public import proofs.«01_k».proof.Proof.Region

@[expose] public section

set_option maxRecDepth 16384

noncomputable section

namespace Cert.KernelIdeal.Ring

open Cert.KernelIdeal Cert.KernelIdeal.Gen Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

/-- Two families, as one family of pairs, and back. -/
theorem pair_all {ι : Type} [Fintype ι] {Φ Ψ : ι → sProp 𝕄} :
    iprop(bigSep Finset.univ Φ ∗ bigSep Finset.univ Ψ) ⊢ bigSep Finset.univ fun i => iprop(Φ i ∗ Ψ i) := Entails.of_eq (BI.bigSep_sep _ _ _).symm
theorem unpair_all {ι : Type} [Fintype ι] {Φ Ψ : ι → sProp 𝕄} :
    bigSep Finset.univ (fun i => iprop(Φ i ∗ Ψ i)) ⊢ iprop(bigSep Finset.univ Φ ∗ bigSep Finset.univ Ψ) := Entails.of_eq (BI.bigSep_sep _ _ _)

/-! ## One thing for each copy semaphore, hop by hop -/

/-- The twelve copy semaphores in the order of the hops. -/
def hops : List (Fin 4 × Fin 3) := [(0, 0), (1, 0), (2, 0), (3, 0), (0, 1), (1, 1), (2, 1), (3, 1), (0, 2), (1, 2), (2, 2), (3, 2)]

theorem sep_hops (Φ : Fin 4 × Fin 3 → sProp 𝕄) :
    (bigSep Finset.univ Φ : sProp 𝕄) ⊣⊢ iprop((Φ (0, 0) ∗ Φ (1, 0) ∗ Φ (2, 0) ∗ Φ (3, 0)) ∗ (Φ (0, 1) ∗ Φ (1, 1) ∗ Φ (2, 1) ∗ Φ (3, 1)) ∗ (Φ (0, 2) ∗ Φ (1, 2) ∗ Φ (2, 2) ∗ Φ (3, 2))) := by
  rw [bigSep_univ_eq_bigSepL hops (by decide) (by decide) Φ]
  show iprop(Φ (0, 0) ∗ Φ (1, 0) ∗ Φ (2, 0) ∗ Φ (3, 0) ∗ Φ (0, 1) ∗ Φ (1, 1) ∗ Φ (2, 1) ∗ Φ (3, 1) ∗ Φ (0, 2) ∗ Φ (1, 2) ∗ Φ (2, 2) ∗ Φ (3, 2)) ⊣⊢ _
  constructor
  · iintro ⟨H1, H2, H3, H4, H5, H6, H7, H8, H9, H10, H11, H12⟩; iframe H1 H2 H3 H4 H5 H6 H7 H8 H9 H10 H11; iexact H12
  · iintro ⟨⟨H1, H2, H3, H4⟩, ⟨H5, H6, H7, H8⟩, H9, H10, H11, H12⟩; iframe H1 H2 H3 H4 H5 H6 H7 H8 H9 H10 H11; iexact H12

theorem cells_hops (c : Dev nD) :
    (bigSep Finset.univ fun k : Fin 4 × Fin 3 => atPos ER ((c : Thread nD τ), osem k) 0 ∅ 0 : sProp 𝕄) ⊢ iprop(hopCells c 0 ∗ hopCells c 1 ∗ hopCells c 2) :=
  (sep_hops _).1
theorem seen_hops (c : Dev nD) :
    (bigSep Finset.univ fun k : Fin 4 × Fin 3 => reached ER ((c : Thread nD τ), osem k) 0 : sProp 𝕄) ⊢ iprop(hopSeen c 0 ∗ hopSeen c 1 ∗ hopSeen c 2) :=
  (sep_hops _).1
theorem zero_hops (c : Dev nD) : iprop(hopZero (F := F) c 0 ∗ hopZero c 1 ∗ hopZero c 2) ⊢ (Pipeline.ownSems0 osem c : sProp 𝕄) :=
  (sep_hops fun k : Fin 4 × Fin 3 => (semVal ((c : Thread nD τ), osem k) 0 : sProp 𝕄)).2

/-- A device opens its copy semaphores' cells. -/
theorem cells_open (Sn : Sent F) (κ : GSem nD τ sig → ℕ) (c : Dev nD) :
    iprop(invs Sn κ ∗ (bigSep Finset.univ fun k : Fin 4 × Fin 3 => openTok ER ((c : Thread nD τ), osem k)) ∗ Pipeline.ownSems0 osem c)
      ⊢ (|={Set.univ}=> ((hopCells c 0 ∗ hopCells c 1 ∗ hopCells c 2) ∗ (hopSeen c 0 ∗ hopSeen c 1 ∗ hopSeen c 2)) : sProp 𝕄) := by
  have hopen : iprop(invs Sn κ ∗ bigSep Finset.univ fun k : Fin 4 × Fin 3 => iprop(openTok ER ((c : Thread nD τ), osem k) ∗ semVal ((c : Thread nD τ), osem k) 0))
      ⊢ (|={Set.univ}=> bigSep Finset.univ fun k : Fin 4 × Fin 3 => iprop(atPos ER ((c : Thread nD τ), osem k) 0 ∅ 0 ∗ reached ER ((c : Thread nD τ), osem k) 0) : sProp 𝕄) :=
    (bigSep_with_persistent fun k _ => (sep_mono_left (inv_osem Sn κ c k)).trans (Rounds.cell_open ER (Rd Sn) (g := ((c : Thread nD τ), osem k)) (Set.mem_univ _))).trans
      (bigSep_fupd _ _)
  unfold Pipeline.ownSems0
  iintro ⟨#HI, Ho, Hz⟩
  ihave H := (pair_all (Φ := fun k : Fin 4 × Fin 3 => (openTok ER ((c : Thread nD τ), osem k) : sProp 𝕄))
    (Ψ := fun k => (semVal ((c : Thread nD τ), osem k) 0 : sProp 𝕄))) $$ [Ho Hz]
  · isplitl [Ho] <;> iassumption
  ihave H := hopen $$ [H]
  · isplitr; · iexact HI
    iexact H
  imod H
  ihave H := unpair_all $$ H; icases H with ⟨Ha, Hr⟩
  imodintro
  isplitl [Ha]
  · iapply (cells_hops c); iexact Ha
  · iapply (seen_hops c); iexact Hr

/-! ## The scratch buffers, whole and slot by slot -/

theorem xg_split (c : Dev nD) (f : cc0_scratch0.ty.Contents (Elt F)) :
    (((c : Thread nD τ).loc cc0_scratch0) ↦{fullShare} f : sProp 𝕄) ⊢ iprop(xgRaw c 0 fullShare f ∗ xgRaw c 1 fullShare f ∗ xgRaw c 2 fullShare f ∗ xgRaw c 3 fullShare f) := by
  have h := pointsTo_biUnion (Ix := Unit) (Name := ℕ) (U := UU) (Lvl := ℕ) (ℓ := (c : Thread nD τ).loc cc0_scratch0) (q := fullShare) (f := f) Finset.univ xgSet xg_disjoint
  rw [xg_cover, bigSep_univ_eq_bigSepL [0, 1, 2, 3] (by decide) (by decide)] at h
  exact Entails.of_eq h
theorem rs_split (c : Dev nD) (f : cc0_scratch1.ty.Contents (Elt F)) :
    (((c : Thread nD τ).loc cc0_scratch1) ↦{fullShare} f : sProp 𝕄) ⊢ iprop(rsRaw c 0 f ∗ rsRaw c 1 f) := by
  have h := pointsTo_biUnion (Ix := Unit) (Name := ℕ) (U := UU) (Lvl := ℕ) (ℓ := (c : Thread nD τ).loc cc0_scratch1) (q := fullShare) (f := f) Finset.univ rsSet rs_disjoint
  rw [rs_cover, bigSep_univ_eq_bigSepL [0, 1] (by decide) (by decide)] at h
  exact Entails.of_eq h
theorem rv_split (c : Dev nD) (f : cc0_scratch2.ty.Contents (Elt F)) :
    (((c : Thread nD τ).loc cc0_scratch2) ↦{fullShare} f : sProp 𝕄) ⊢ iprop(rvRaw c 0 f ∗ rvRaw c 1 f ∗ rvRaw c 2 f) := by
  have h := pointsTo_biUnion (Ix := Unit) (Name := ℕ) (U := UU) (Lvl := ℕ) (ℓ := (c : Thread nD τ).loc cc0_scratch2) (q := fullShare) (f := f) Finset.univ rvSet rv_disjoint
  rw [rv_cover, bigSep_univ_eq_bigSepL [0, 1, 2] (by decide) (by decide)] at h
  exact Entails.of_eq h

theorem xg_join (c : Dev nD) (f0 f1 f2 f3 : cc0_scratch0.ty.Contents (Elt F)) :
    iprop(xgRaw c 0 fullShare f0 ∗ xgRaw c 1 fullShare f1 ∗ xgRaw c 2 fullShare f2 ∗ xgRaw c 3 fullShare f3)
      ⊢ (∃ f : cc0_scratch0.ty.Contents (Elt F), ((c : Thread nD τ).loc cc0_scratch0) ↦{fullShare} f : sProp 𝕄) := by
  refine BIBase.Entails.trans ?_ ((pointsTo_biUnion_join (ℓ := (c : Thread nD τ).loc cc0_scratch0) (q := fullShare) Finset.univ xgSet ![f0, f1, f2, f3] f0 xg_disjoint).trans ?_)
  · rw [bigSep_univ_eq_bigSepL [0, 1, 2, 3] (by decide) (by decide)]; exact BI.Entails.refl _
  · rw [xg_cover]; iintro ⟨%g, -, H⟩; iexists g; iexact H
theorem rs_join (c : Dev nD) (f0 f1 : cc0_scratch1.ty.Contents (Elt F)) :
    iprop(rsRaw c 0 f0 ∗ rsRaw c 1 f1) ⊢ (∃ f : cc0_scratch1.ty.Contents (Elt F), ((c : Thread nD τ).loc cc0_scratch1) ↦{fullShare} f : sProp 𝕄) := by
  refine BIBase.Entails.trans ?_ ((pointsTo_biUnion_join (ℓ := (c : Thread nD τ).loc cc0_scratch1) (q := fullShare) Finset.univ rsSet ![f0, f1] f0 rs_disjoint).trans ?_)
  · rw [bigSep_univ_eq_bigSepL [0, 1] (by decide) (by decide)]; exact BI.Entails.refl _
  · rw [rs_cover]; iintro ⟨%g, -, H⟩; iexists g; iexact H
theorem rv_join (c : Dev nD) (f0 f1 f2 : cc0_scratch2.ty.Contents (Elt F)) :
    iprop(rvRaw c 0 f0 ∗ rvRaw c 1 f1 ∗ rvRaw c 2 f2) ⊢ (∃ f : cc0_scratch2.ty.Contents (Elt F), ((c : Thread nD τ).loc cc0_scratch2) ↦{fullShare} f : sProp 𝕄) := by
  refine BIBase.Entails.trans ?_ ((pointsTo_biUnion_join (ℓ := (c : Thread nD τ).loc cc0_scratch2) (q := fullShare) Finset.univ rvSet ![f0, f1, f2] f0 rv_disjoint).trans ?_)
  · rw [bigSep_univ_eq_bigSepL [0, 1, 2] (by decide) (by decide)]; exact BI.Entails.refl _
  · rw [rv_cover]; iintro ⟨%g, -, H⟩; iexists g; iexact H

/-- The region's scoped buffers are the scratch buffers. -/
theorem scratch_in (c : Dev nD) : (Pipeline.scopedRest spec0 c : sProp 𝕄) ⊢ scratch c := by
  rw [scopedRest0_eq]
  unfold scratch
  iintro ⟨⟨%f0, H0⟩, ⟨%f1, H1⟩, ⟨%f2, H2⟩, ⟨%f3, H3⟩⟩
  ihave H0 := (xg_split c f0) $$ H0; icases H0 with ⟨X0, X1, X2, X3⟩
  ihave H1 := (rs_split c f1) $$ H1; icases H1 with ⟨R0, R1⟩
  ihave H2 := (rv_split c f2) $$ H2; icases H2 with ⟨Y0, Y1, Y2⟩
  isplitl [X0 X1 X2 X3]
  · isplitl [X0]; · iexists f0; iexact X0
    isplitl [X1]; · iexists f0; iexact X1
    isplitl [X2]; · iexists f0; iexact X2
    iexists f0; iexact X3
  isplitl [R0 R1]
  · isplitl [R0]; · iexists f1; iexact R0
    iexists f1; iexact R1
  isplitl [Y0 Y1 Y2]
  · isplitl [Y0]; · iexists f2; iexact Y0
    isplitl [Y1]; · iexists f2; iexact Y1
    iexists f2; iexact Y2
  iexists f3; unfold paccRule; iexact H3
theorem scratch_out (c : Dev nD) : scratch c ⊢ (Pipeline.scopedRest spec0 c : sProp 𝕄) := by
  rw [scopedRest0_eq]
  unfold scratch
  iintro ⟨⟨⟨%x0, X0⟩, ⟨%x1, X1⟩, ⟨%x2, X2⟩, ⟨%x3, X3⟩⟩, ⟨⟨%r0, R0⟩, ⟨%r1, R1⟩⟩, ⟨⟨%y0, Y0⟩, ⟨%y1, Y1⟩, ⟨%y2, Y2⟩⟩, ⟨%f3, H3⟩⟩
  isplitl [X0 X1 X2 X3]
  · iapply (xg_join c x0 x1 x2 x3); iframe X0 X1 X2; iexact X3
  isplitl [R0 R1]
  · iapply (rs_join c r0 r1); iframe R0; iexact R1
  isplitl [Y0 Y1 Y2]
  · iapply (rv_join c y0 y1 y2); iframe Y0 Y1; iexact Y2
  iexists f3; unfold paccRule; iexact H3

/-! ## The tokens of the duties -/

/-- The duties of a device's cells: the barrier's two, and each copy semaphore's one. -/
def dutySem : Bool ⊕ Fin 4 × Fin 3 → SemLoc sig := Sum.elim (fun _ => .reg barS) osem
def dutyOf : Bool ⊕ Fin 4 × Fin 3 → Bool := Sum.elim id fun _ => false
theorem duty_inj : Function.Injective fun k => (dutySem k, dutyOf k) := by decide
def allToks : Finset (GSem nD τ sig × ℕ × Bool) :=
  Finset.univ.map ⟨fun ck : Dev nD × (Bool ⊕ Fin 4 × Fin 3) => (((ck.1 : Thread nD τ), dutySem ck.2), 0, dutyOf ck.2), fun _ _ h =>
    Prod.ext (congrArg (fun t : GSem nD τ sig × ℕ × Bool => t.1.1.1) h)
      (duty_inj (Prod.ext (congrArg (fun t : GSem nD τ sig × ℕ × Bool => t.1.2) h) (congrArg (fun t : GSem nD τ sig × ℕ × Bool => t.2.2) h)))⟩

/-- The tokens of one hop's own semaphores. -/
def hopOwn (c : Dev nD) (s : Fin 3) : sProp 𝕄 :=
  iprop(dutyTok ER (agSCell c s) 0 false ∗ dutyTok ER (agRCell c s) 0 false ∗ dutyTok ER (rsSCell c s) 0 false ∗ dutyTok ER (rsRCell c s) 0 false)

theorem toks_eq : (bigSep allToks fun x => dutyTok ER x.1 x.2.1 x.2.2 : sProp 𝕄)
    ⊢ bigSep Finset.univ fun c : Dev nD => iprop(dutyTok ER (barCell c) 0 false ∗ dutyTok ER (barCell c) 0 true ∗ hopOwn c 0 ∗ hopOwn c 1 ∗ hopOwn c 2) := by
  unfold allToks; rw [bigSep_map, bigSep_univ_prod]
  refine bigSep_mono fun c _ => ?_
  rw [bigSep_univ_sum, bigSep_univ_eq_bigSepL [false, true] (by decide) (by decide)]
  show iprop((dutyTok ER (barCell c) 0 false ∗ dutyTok ER (barCell c) 0 true) ∗ bigSep Finset.univ fun k : Fin 4 × Fin 3 => dutyTok ER ((c : Thread nD τ), osem k) 0 false) ⊢ _
  iintro ⟨⟨H0, H1⟩, H⟩
  iframe H0 H1
  iapply (sep_hops fun k : Fin 4 × Fin 3 => (dutyTok ER ((c : Thread nD τ), osem k) 0 false : sProp 𝕄)).1
  iexact H

theorem hop_around (s : Fin 3) : (bigSep Finset.univ fun c : Dev nD => (hopOwn c s : sProp 𝕄)) ⊢ bigSep Finset.univ fun c : Dev nD => hopToks c s := by
  unfold hopOwn hopToks
  rw [bigSep_sep', bigSep_sep', bigSep_sep', bigSep_sep', bigSep_sep', bigSep_sep', bigSep_univ_equiv ring (fun c : Dev nD => (dutyTok ER (agRCell c s) 0 false : sProp 𝕄)),
    bigSep_univ_equiv ring (fun c : Dev nD => (dutyTok ER (rsRCell c s) 0 false : sProp 𝕄))]
  exact BI.Entails.refl _

/-- Each token to the device that pays the duty. -/
theorem toks_around :
    (bigSep Finset.univ fun c : Dev nD => iprop(dutyTok ER (barCell c) 0 false ∗ dutyTok ER (barCell c) 0 true ∗ hopOwn c 0 ∗ hopOwn c 1 ∗ hopOwn c 2) : sProp 𝕄)
      ⊢ bigSep Finset.univ fun c : Dev nD => iprop(dutyTok ER (barCell (prv c)) 0 false ∗ dutyTok ER (barCell (nxt c)) 0 true ∗ hopToks c 0 ∗ hopToks c 1 ∗ hopToks c 2) := by
  rw [bigSep_sep', bigSep_sep', bigSep_sep', bigSep_sep', bigSep_sep', bigSep_sep', bigSep_sep', bigSep_sep',
    bigSep_univ_equiv ring.symm (fun c : Dev nD => (dutyTok ER (barCell c) 0 false : sProp 𝕄)),
    bigSep_univ_equiv ring (fun c : Dev nD => (dutyTok ER (barCell c) 0 true : sProp 𝕄))]
  exact sep_mono_right (sep_mono_right (BIClass.sep_mono (hop_around 0) (BIClass.sep_mono (hop_around 1) (hop_around 2))))

/-! ## The credit of what is owed -/

theorem cell_ite (c d : Dev nD) (a b : SemLoc sig) (n : ℕ) :
    (if (((c : Thread nD τ), a) : GSem nD τ sig) = ((d : Thread nD τ), b) then n else 0) = if a = b then (if c = d then n else 0) else 0 := by
  by_cases h : a = b
  · subst h
    rw [if_pos rfl]
    exact if_congr ⟨fun h => congrArg (fun g : GSem nD τ sig => g.1.1) h, fun h => by rw [h]⟩ rfl rfl
  · rw [if_neg h, if_neg fun e => h (congrArg Prod.snd e)]

/-- What the devices owe a semaphore of device `c` together. -/
theorem owed_sum (c : Dev nD) (a : SemLoc sig) :
    ∑ d : Dev nD, O₀ d ((c : Thread nD τ), a) () = (if a = .reg barS then 2 else 0)
      + ((if a = .dma (agR 0) then N₁ else 0) + (if a = .dma (agR 1) then N₁ else 0) + (if a = .dma (rsR 0) then N₂ else 0)
        + (if a = .dma (agR 2) then N₁ else 0) + (if a = .dma (rsR 1) then N₂ else 0) + (if a = .dma (rsR 2) then N₂ else 0)) := by
  have hp (n : ℕ) : ∑ d : Dev nD, (if c = prv d then n else 0) = n := by
    rw [Finset.sum_congr rfl fun d _ => if_congr (show c = prv d ↔ d = nxt c from ⟨fun h => by rw [h, nxt_prv], fun h => by rw [h, prv_nxt]⟩) rfl rfl,
      Finset.sum_ite_eq' Finset.univ (nxt c) fun _ => n, if_pos (Finset.mem_univ _)]
  have hn (n : ℕ) : ∑ d : Dev nD, (if c = nxt d then n else 0) = n := by
    rw [Finset.sum_congr rfl fun d _ => if_congr (show c = nxt d ↔ d = prv c from ⟨fun h => by rw [h, prv_nxt], fun h => by rw [h, nxt_prv]⟩) rfl rfl,
      Finset.sum_ite_eq' Finset.univ (prv c) fun _ => n, if_pos (Finset.mem_univ _)]
  have hpa (b : SemLoc sig) (n : ℕ) : ∑ d : Dev nD, (if a = b then (if c = prv d then n else 0) else 0) = if a = b then n else 0 := by
    split
    · exact hp n
    · exact Finset.sum_const_zero
  have hna (b : SemLoc sig) (n : ℕ) : ∑ d : Dev nD, (if a = b then (if c = nxt d then n else 0) else 0) = if a = b then n else 0 := by
    split
    · exact hn n
    · exact Finset.sum_const_zero
  unfold O₀
  simp only [obl_apply, payments, List.map_cons, List.map_nil, List.sum_cons, List.sum_nil, cell_ite, Finset.sum_add_distrib, Finset.sum_const_zero, hpa, hna]
  split <;> omega

theorem launch_cell (c : Dev nD) (a : SemLoc sig) (n : ℕ) (h : ∑ d : Dev nD, O₀ d ((c : Thread nD τ), a) () = n) :
    tallyOn ((c : Thread nD τ), a) (launchCredit (Pipeline.owing O₀) 0 ((c : Thread nD τ), a)) = (tallyAt ((c : Thread nD τ), a) () n : CellTallies nD τ sig Unit) := by
  unfold tallyAt; refine congrArg _ (Finsupp.ext fun u => ?_); cases u
  rw [Pipeline.launchCredit_owing, Finsupp.single_eq_same, h]

/-- The semaphores the devices owe. -/
def dueSems : List (SemLoc sig) := [.reg barS, .dma (agR 0), .dma (rsR 0), .dma (agR 1), .dma (rsR 1), .dma (agR 2), .dma (rsR 2)]

theorem creds (c : Dev nD) :
    (Pipeline.launchCred O₀ c : sProp 𝕄) ⊢ iprop(cred (tallyAt (barCell c) () 2) ∗ hopCreds c 0 ∗ hopCreds c 1 ∗ hopCreds c 2) := by
  unfold Pipeline.launchCred
  refine (BI.bigSep_subset (t := dueSems.toFinset) (Finset.subset_univ _)).trans ?_
  rw [bigSep_eq_bigSepL_of_eq dueSems rfl (by decide)]
  have e (a : SemLoc sig) (n : ℕ) (h : ∑ d : Dev nD, O₀ d ((c : Thread nD τ), a) () = n) :
      (cred (tallyOn ((c : Thread nD τ), a) (launchCredit (Pipeline.owing O₀) 0 ((c : Thread nD τ), a))) : sProp 𝕄) ⊢ cred (tallyAt ((c : Thread nD τ), a) () n) :=
    Entails.of_eq (congrArg _ (launch_cell c a n h))
  unfold hopCreds
  have o (a : SemLoc sig) (n : ℕ) (h : (if a = .reg barS then 2 else 0) + ((if a = .dma (agR 0) then N₁ else 0) + (if a = .dma (agR 1) then N₁ else 0)
      + (if a = .dma (rsR 0) then N₂ else 0) + (if a = .dma (agR 2) then N₁ else 0) + (if a = .dma (rsR 1) then N₂ else 0) + (if a = .dma (rsR 2) then N₂ else 0)) = n) :=
    e a n ((owed_sum c a).trans h)
  show iprop(cred (tallyOn (barCell c) (launchCredit (Pipeline.owing O₀) 0 (barCell c))) ∗ cred (tallyOn (agRCell c 0) (launchCredit (Pipeline.owing O₀) 0 (agRCell c 0)))
    ∗ cred (tallyOn (rsRCell c 0) (launchCredit (Pipeline.owing O₀) 0 (rsRCell c 0))) ∗ cred (tallyOn (agRCell c 1) (launchCredit (Pipeline.owing O₀) 0 (agRCell c 1)))
    ∗ cred (tallyOn (rsRCell c 1) (launchCredit (Pipeline.owing O₀) 0 (rsRCell c 1))) ∗ cred (tallyOn (agRCell c 2) (launchCredit (Pipeline.owing O₀) 0 (agRCell c 2)))
    ∗ cred (tallyOn (rsRCell c 2) (launchCredit (Pipeline.owing O₀) 0 (rsRCell c 2)))) ⊢ _
  iintro ⟨H0, H1, H2, H3, H4, H5, H6⟩
  isplitl [H0]; · iapply (o (.reg barS) 2 (by simp only [reduceCtorEq, if_false, if_true])); iexact H0
  isplitl [H1 H2]
  · isplitl [H1]; · iapply (o (.dma (agR 0)) N₁ (by repeat' first | rw [if_pos (by decide)] | rw [if_neg (by decide)] | simp only [Nat.zero_add, Nat.add_zero])); iexact H1
    iapply (o (.dma (rsR 0)) N₂ (by repeat' first | rw [if_pos (by decide)] | rw [if_neg (by decide)] | simp only [Nat.zero_add, Nat.add_zero])); iexact H2
  isplitl [H3 H4]
  · isplitl [H3]; · iapply (o (.dma (agR 1)) N₁ (by repeat' first | rw [if_pos (by decide)] | rw [if_neg (by decide)] | simp only [Nat.zero_add, Nat.add_zero])); iexact H3
    iapply (o (.dma (rsR 1)) N₂ (by repeat' first | rw [if_pos (by decide)] | rw [if_neg (by decide)] | simp only [Nat.zero_add, Nat.add_zero])); iexact H4
  isplitl [H5]; · iapply (o (.dma (agR 2)) N₁ (by repeat' first | rw [if_pos (by decide)] | rw [if_neg (by decide)] | simp only [Nat.zero_add, Nat.add_zero])); iexact H5
  iapply (o (.dma (rsR 2)) N₂ (by repeat' first | rw [if_pos (by decide)] | rw [if_neg (by decide)] | simp only [Nat.zero_add, Nat.add_zero])); iexact H6

end Cert.KernelIdeal.Ring

end
-- ==== Proof.Launch.lean ====
/-
  The launch: the host operations and the region as the segments of the program, what each device is dealt, and the
  run of the whole mesh.
-/
module

public import proofs.«01_k».proof.Proof.Ghost
public import Idealize.ShloMosaic.Lib.Quiescent

@[expose] public section

set_option maxRecDepth 16384

noncomputable section

namespace Cert.KernelIdeal.Ring

open Cert.KernelIdeal Cert.KernelIdeal.Gen Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region as a segment -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun | 0 => fun c => dat0 m c

/-- Every array of the program; those the region stages; the others. -/
abbrev allBufs : Finset (DevRef τ sig) := Pipeline.ucRefs τ sig
abbrev arrBufs : Finset (DevRef τ sig) := Pipeline.arrRefs (τ := τ) spec0
abbrev otherBufs : Finset (DevRef τ sig) := allBufs \ arrBufs

theorem arr_sub : arrBufs ⊆ allBufs := Pipeline.arrRefs_sub_ucRefs spec0 (by decide)

/-- What every device may consult: the cells' invariants, and that every barrier's round has begun. -/
def records (κ : GSem nD τ sig → ℕ) : sProp 𝕄 :=
  iprop(invs (sent (slabs m) (wts1 m) (wts2 m)) κ ∗ bigSep barCells fun g => reached ER g 0)
instance records_persistent (κ : GSem nD τ sig → ℕ) : BI.Persistent (records m κ) := by unfold records; infer_instance

theorem reached_at (c : Dev nD) : (bigSep barCells fun g => (reached ER g 0 : sProp 𝕄)) ⊢ reached ER (barCell c) 0 :=
  bigSep_elim (Finset.mem_map_of_mem barEmb (Finset.mem_univ c))

/-- What a device holds alone: its place in the barrier's round, the right to open its copy semaphores, and the tokens of its duties. -/
def linear (c : Dev nD) : sProp 𝕄 :=
  iprop(atPos ER (barCell c) 0 ∅ 0 ∗ (bigSep Finset.univ fun k : Fin 4 × Fin 3 => openTok ER ((c : Thread nD τ), osem k))
    ∗ (dutyTok ER (barCell (prv c)) 0 false ∗ dutyTok ER (barCell (nxt c)) 0 true ∗ hopToks c 0 ∗ hopToks c 1 ∗ hopToks c 2))

/-- What the launch keeps for the region. -/
def Tk (c : Dev nD) : sProp 𝕄 :=
  iprop((∃ κ, records m κ) ∗ linear c ∗ cred (tallyAt (barCell c) () 2) ∗ hopCreds c 0 ∗ hopCreds c 1 ∗ hopCreds c 2)
def Yk (c : Dev nD) : sProp 𝕄 := semVal (barCell c) 0

theorem hopen0 (c : Dev nD) : iprop(Tk m c ∗ Pipeline.ownSems0 osem c ∗ levAts L lv) ⊢ (|={Set.univ}=> kept m c : sProp 𝕄) := by
  unfold Tk linear records kept barIn
  iintro ⟨⟨⟨%κ, #HI, #HR⟩, ⟨HaB, Ho, HtF, HtT, Ht⟩, HcB, Hcr⟩, Hz, Hlev⟩
  imod (cells_open (sent (slabs m) (wts1 m) (wts2 m)) κ c) $$ [Ho Hz] with ⟨Hcells, Hseen⟩
  · isplitr; · iexact HI
    isplitl [Ho] <;> iassumption
  imodintro
  isplitr; · iexists κ; iexact HI
  isplitl [Hlev]; · iexact Hlev
  isplitl [HaB HtF HtT]
  · isplitl [HaB]; · iexact HaB
    isplitr; · iapply (reached_at (F := F) (prv c)); iexact HR
    isplitr; · iapply (reached_at (F := F) (nxt c)); iexact HR
    isplitl [HtF] <;> iassumption
  isplitl [Hcells]; · iexact Hcells
  isplitl [Hseen]; · iexact Hseen
  isplitl [Ht]; · iexact Ht
  isplitl [HcB] <;> iassumption

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin0 (c : Dev nD) : iprop(Pipeline.scopedRest (Pipeline.pin (pcfgs (F := F)) adm 0).spec c ∗ (∃ r, prngReg c r) ∗ StableHlo.held (c.tc : Thread nD τ) ∅ (V₁ m c) ∗ kept m c)
    ⊢ (pdats m 0 c).Φ 0 := by
  show _ ⊢ iprop(kept m c ∗ scratch c ∗ ∃ r, prngReg c r)
  iintro ⟨Hs, Hp, -, HK⟩
  isplitl [HK]; · iexact HK
  isplitl [Hs]; · iapply (scratch_in c); iexact Hs
  iexact Hp

theorem Φ_last (c : Dev nD) : (dat0 m c).Φ (Fin.last cfg0.N) = iprop(left c ∗ scratch c ∗ ∃ r, prngReg c r) := by
  have h : Fin.last cfg0.N = t0_0.succ := Fin.ext N_0
  rw [h]
  exact Φ_succ m c

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last _) = iprop(left c ∗ scratch c ∗ ∃ r, prngReg c r) from Φ_last m c]
  unfold left Yk StableHlo.held
  rw [bigSep_empty]
  iintro ⟨⟨ZB, Z⟩, Hs, Hp⟩
  isplitl [Hs]; · iapply (scratch_out c); iexact Hs
  isplitl [Hp]; · iexact Hp
  isplitr; · iempintro
  isplitl [Z]; · iapply (zero_hops c); iexact Z
  iexact ZB

theorem pos_owed (c : Dev nD) {g : GSem nD τ sig} {u : Unit} (h : 0 < O₀ c g u) : u ∈ L g ∧ 0 < lv g u := by
  obtain ⟨p, hp, rfl⟩ := obl_pos h
  simp only [payments, List.mem_cons, List.not_mem_nil, or_false] at hp
  rcases hp with rfl | rfl | rfl | rfl | rfl | rfl | rfl | rfl
  all_goals
    refine ⟨by rw [L_tc]; exact Finset.mem_singleton_self _, ?_⟩
    cases u
    simp only [lv_bar, lv_agR, lv_rsR]
    omega

theorem cut0 (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = if t.val = 0 then O₀ c else 0 from rfl] at h
  split at h
  · exact pos_owed c h
  · exact absurd h (Nat.lt_irrefl 0)

/-- The staging semaphores lie below everything owed. -/
theorem lv_staging (c : Dev nD) (w : Fin 4) (s : Fin (spec0 w).nbuf) : lv ((c : Thread nD τ), .dma ((spec0 w).sem s)) () ≤ 0 := by
  have h : ∀ (w : Fin 4) (s : Fin (spec0 w).nbuf), useOf (.dma ((spec0 w).sem s)) = .other := by decide
  show lvOf (useOf (.dma ((spec0 w).sem s))) ≤ 0
  rw [h w s]; exact Nat.le_refl 0

theorem rest_same (c : Dev nD) : ∀ b ∈ otherBufs \ ∅, V₂ m c b = V₁ m c b := fun b hb => V₂_ne m c b (by
  rintro rfl
  exact absurd hb (by decide))

theorem arr_end (c : Dev nD) : ∀ w : Fin 4, (dat0 m c).arrAt w cfg0.N = V₂ m c (Proc.devRef .tc (Pipeline.arrRef spec0 w))
  | 0 => ((dat0 m c).arrAt_in 0 rfl _).trans (V₂_ne m c (Proc.devRef .tc (Pipeline.arrRef spec0 0)) (by decide)).symm
  | 1 => ((dat0 m c).arrAt_in 1 rfl _).trans (V₂_ne m c (Proc.devRef .tc (Pipeline.arrRef spec0 1)) (by decide)).symm
  | 2 => ((dat0 m c).arrAt_in 2 rfl _).trans (V₂_ne m c (Proc.devRef .tc (Pipeline.arrRef spec0 2)) (by decide)).symm
  | 3 => (arr3 m c).trans (V₂_v9 m c).symm
  | ⟨_ + 4, h⟩ => absurd h (Nat.not_lt.2 (Nat.le_add_left _ _))

theorem share0 (c : Dev nD) : ∀ w : Fin 4, (dat0 m c).share w = fullShare
  | 0 => rfl
  | 1 => rfl
  | 2 => rfl
  | 3 => rfl
  | ⟨_ + 4, h⟩ => absurd h (Nat.not_lt.2 (Nat.le_add_left _ _))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ otherBufs (Finset.empty_subset _) kit0 rfl (fun c => (body0 m c).loose)
    (fun _ => 0) O₀ (fun c => (owed_zero m c).trans (zero_add _).symm) (owed_last m) (fun _ => rfl) (share0 m)
    (V₁ m) (V₂ m) (rest_same m)
    (Tk m) Yk (kept m) Yk (hopen0 m) (hin0 m) (hout0 m)
    (fun c => by iintro H; imodintro; iexact H)
    (fun _ => 0)
    ⟨fun c w s => by rw [L_tc]; exact Finset.mem_singleton_self _, fun c w s => lv_staging c w s, fun c t g i h => cut0 m c t g i h⟩
    (fun _ => iprop(emp))
    (fun c w => rfl) (arr_end m)

/-- What rides beside the arrays up to the region. -/
def R (c : Dev nD) : sProp 𝕄 := iprop(Tk m c ∗ (∃ r, prngReg c r) ∗ ∃ W, owes (c : Thread nD τ) (O₀ c) W)

theorem reg0_pre (c : Dev nD) : iprop(StableHlo.held (c : Thread nD τ) allBufs (V₁ m c) ∗ R m c) ⊢ (reg0 m).pre c := by
  show _ ⊢ iprop(StableHlo.held (c.tc : Thread nD τ) arrBufs (V₁ m c) ∗ (∃ r, prngReg c r)
    ∗ (StableHlo.held (c.tc : Thread nD τ) otherBufs (V₁ m c) ∗ emp) ∗ Tk m c ∗ ∃ Wd, owes (c : Thread nD τ) (0 + O₀ c) Wd)
  rw [StableHlo.held_sub_split (c.tc : Thread nD τ) arr_sub (V₁ m c), zero_add]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT] <;> iassumption

/-- At the end a device holds its arrays and its barrier at zero. -/
abbrev Tₙ (c : Dev nD) : sProp 𝕄 := iprop(StableHlo.held (c : Thread nD τ) allBufs (V₂ m c) ∗ semVal (barCell c) 0)

theorem reg0_post (c : Dev nD) : (reg0 m).post c ⊢ iprop(Tₙ m c ∗ ∃ W, owes (c : Thread nD τ) (0 : CellTallies nD τ sig Unit) W) := by
  show iprop(StableHlo.held (c.tc : Thread nD τ) arrBufs (V₂ m c) ∗ (∃ r, prngReg c r)
    ∗ (StableHlo.held (c.tc : Thread nD τ) otherBufs (V₂ m c) ∗ emp) ∗ Yk c ∗ ∃ Wd, owes (c : Thread nD τ) (0 : CellTallies nD τ sig Unit) Wd) ⊢ _
  unfold Tₙ Yk
  rw [StableHlo.held_sub_split (c.tc : Thread nD τ) arr_sub (V₂ m c)]
  iintro ⟨Ha, -, ⟨Hh, -⟩, Hb, HO⟩
  isplitl [Ha Hh Hb]
  · isplitl [Ha Hh]
    · isplitl [Ha] <;> iassumption
    iexact Hb
  iexact HO

def seg0 : Pipeline.HostSeg (Name := ℕ) (U := UU) (pcfgs (F := F)) defs₀ 𝒱₀ L lv :=
  Pipeline.HostSeg.ofOps _ _ _ _ _ allBufs hostOps0 (fun op h => Pipeline.sub_ucRefs op (List.forall_iff_forall_mem.mp hostOps0_sub op h))
    (fun op h => List.forall_iff_forall_mem.mp hostOps0_fresh op h) (V₀ m) (R m)

def segs : List (Pipeline.Seg (pcfgs (F := F)) adm (pdats m) () defs₀ 𝒱₀ L lv) := [.host (seg0 m), .region (reg0 m)]

theorem main_eq (c : Dev nD) : main (F := F) c = Pipeline.Seg.run (segs m) := main_segs adm (pdats m) () 𝒱₀ L lv (seg0 m) (reg0 m) rfl c

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The ghost state at launch: the staging protocol's and the ring's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The ring's launch state, held by device 0 until it is dealt. -/
def G (c : Dev nD) : sProp 𝕄 := if c = 0 then BI.own (ER (launchOf barCells scCells allToks)) else iprop(emp)
theorem sum_G : bigSep Finset.univ (G (F := F)) = BI.own (ER (launchOf barCells scCells allToks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) allBufs (V₀ m c) ∗ R m c)

/-- What a device is dealt beside the ring's ghost state. -/
def bundle (c : Dev nD) : sProp 𝕄 :=
  iprop(StableHlo.held (c : Thread nD τ) allBufs (V₀ m c) ∗ (cred (tallyAt (barCell c) () 2) ∗ hopCreds c 0 ∗ hopCreds c 1 ∗ hopCreds c 2)
    ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R Tk
  iintro ⟨#HR, Hl, Hh, Hcr, HO, Hp⟩
  isplitl [Hh]; · iexact Hh
  isplitl [Hl Hcr]
  · isplitr; · iexists κ; iexact HR
    isplitl [Hl] <;> iassumption
  isplitl [Hp]; · iexact Hp
  iexists ∅; iexact HO

theorem deal (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) allBufs (V₀ m c) from Pipeline.unscopedBufs_held c (V₀ m c),
    unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 4 × Fin 3 => openTok ER ((c : Thread nD τ), osem k)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => deal m ρ c) $$ H
  ihave H2 := unpair_all $$ H'; icases H2 with ⟨HB, H3⟩
  ihave H4 := unpair_all $$ H3; icases H4 with ⟨Hv, HG⟩
  ihave Hu := (show bigSep Finset.univ (G (F := F)) ⊢ BI.own (ER (launchOf barCells scCells allToks)) from Entails.of_eq (sum_G (F := F))) $$ HG
  imod (Rounds.fund_launch ER (Rd (sent (slabs m) (wts1 m) (wts2 m))) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records invs
    isplitr; · iexact Hinv
    iexact Hr
  iapply pair_all
  isplitr [HB]
  · unfold linear
    iapply pair_all; isplitl [Hat]; · iapply hat $$ Hat
    iapply pair_all; isplitl [Hopen]; · iapply hopen $$ Hopen
    iapply (toks_around (F := F))
    iapply (toks_eq (F := F)) $$ Htok
  · iexact HB

theorem unscoped_eq : ∀ sm : SemLoc sig, sm.isScoped .tc = false → sm = .reg barS := by decide

theorem mem_bufs (b : Ref sig .tc) (h : (Proc.devRef .tc b : DevRef τ sig).isScoped = false) : (Proc.devRef .tc b : DevRef τ sig) ∈ allBufs :=
  Finset.mem_filter.mpr ⟨StableHlo.devRef_mem_tcRefs b, by rw [h]; exact Bool.false_ne_true⟩

set_option backward.isDefEq.respectTransparency.types false in
/-- The run: every execution ends, with the arguments unchanged, each device's result `result`, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_v9) = result m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [sum_G]; iexact HX)
    (T₀ := T₀ m) (Tₙ := Tₙ m)
    (hch := ⟨fun c => .rfl, fun c => reg0_pre m c, fun c => reg0_post m c⟩)
    (hinit := init m ρ)
    (QY := fun c s => (∀ b ∈ allBufs, s.mem ((c : Dev nD), b) = V₂ m c b) ∧ s.sem (barCell c) = 0)
    (hfin := fun c s' => by
      dsimp only [Tₙ]; unfold StableHlo.held
      iintro ⟨⟨Hh, Hb0⟩, HSI⟩
      icombine HSI Hb0 gives %hb
      ihave Hr := (pointsTo_read_all allBufs (fun b => ((c : Dev nD), b)) (fun b => V₂ m c b) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => by
        have hm := (h c).1
        refine ⟨(hm _ (mem_bufs main_arg0 rfl)).trans ((V₂_ne m c _ (by decide)).trans (V_main_arg0 m c)), (hm _ (mem_bufs main_arg1 rfl)).trans ((V₂_ne m c _ (by decide)).trans (V_main_arg1 m c)),
          (hm _ (mem_bufs main_arg2 rfl)).trans ((V₂_ne m c _ (by decide)).trans (V_main_arg2 m c)), (hm _ (mem_bufs main_arg3 rfl)).trans ((V₂_ne m c _ (by decide)).trans (V_main_arg3 m c)),
          (hm _ (mem_bufs main_v9 rfl)).trans (V₂_v9 m c)⟩,
      sem_eq_zero hs fun c sm hsm => by
        obtain rfl := unscoped_eq sm hsm
        exact (h c).2⟩)

end Cert.KernelIdeal.Ring

end
-- ==== Proof.Same.lean ====
/-
  The two kernels have one text, so their tables of bodies are equal.
-/
module

public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

/-- The bodies are one term. -/
theorem body_same : @Cert.Kernel.cc0_body F _ _ = @Cert.KernelIdeal.cc0_body F _ _ := rfl

/-- The kernels' tables of bodies. -/
theorem table_same : Cert.Kernel.defs₀ (F := F) = Cert.KernelIdeal.defs₀ (F := F) := by
  unfold Cert.Kernel.defs₀ Cert.KernelIdeal.defs₀
  refine congrArg Defs.onTc ?_
  funext l a
  match l, a with
  | 0, (t, s) =>
    have h := body_same (F := F)
    dsimp only
    rw [h]

/-- The tables with the region and the pipeline. -/
theorem defs_same : Cert.Kernel.defs (F := F) = Cert.KernelIdeal.defs (F := F) :=
  congrArg (Pipeline.defs (Cert.Kernel.pcfgs (F := F))) table_same

end Cert.Proof

end
-- ==== Proof.Frames.lean ====
/-
  The frames of the two kernels, read off one run, and the reference's.
-/
module

public import proofs.«01_k».proof.Defs
public import proofs.«01_k».proof.Proof.Launch
public import proofs.«01_k».proof.Proof.Same
public import proofs.«01_k».proof.Proof.Gen.Kernel
public import proofs.«01_k».proof.Proof.Gen.ReferenceIdeal.Run

@[expose] public section

noncomputable section

namespace Cert.Proof

open Idealize.ShloMosaic Idealize.SL.Sem

/-- The kernel ends, its arguments unchanged and every semaphore at zero: the run holds over any float values. -/
theorem frame_kernel : Cert.quiescent_Kernel (hKernel := Cert.Kernel.Gen.facts) := fun m ρ _ => by
  rw [defs_same]
  exact (θ_run Cert.KernelIdeal.defs _ _).mono (fun _ h => ⟨fun c => ⟨(h.1 c).1, (h.1 c).2.1, (h.1 c).2.2.1, (h.1 c).2.2.2.1⟩, h.2⟩)
    (Cert.KernelIdeal.Ring.run_main (F := Bits) m ρ)

/-- The same of the idealized kernel. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Ring.run_main (F := Ideal) m ρ)

/-- The reference ends with its arguments unchanged; it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Sums.lean ====
/-
  The arithmetic of the kernel, on plain functions of extended reals: a two-layer block on one row, the
  block on a row multiplied by zero or one, a hidden sum cut in four, and the sum over eight experts that
  a chain of selections picks one of.
-/
module

public import Idealize.ShloMosaic.PureOps.Ideal.Laws
public import Mathlib.Tactic.FinCases
public import Mathlib.Tactic.Abel

@[expose] public section

noncomputable section

namespace Cert.Proof.Sums

open scoped BigOperators

/-- One output of a two-layer block on the row `x`: the hidden layer clipped at zero, then the second product. -/
def mlp (w1 : Fin 1024 → Fin 2048 → EReal) (w2 : Fin 2048 → Fin 1024 → EReal) (x : Fin 1024 → EReal) (q : Fin 1024) : EReal :=
  ∑ f : Fin 2048, max (∑ k : Fin 1024, x k * w1 k f) 0 * w2 f q

/-- The block on a row times one is the block on the row; on a row times zero, zero. -/
theorem mlp_mask (w1 : Fin 1024 → Fin 2048 → EReal) (w2 : Fin 2048 → Fin 1024 → EReal) (x : Fin 1024 → EReal) (q : Fin 1024)
    (p : Prop) [Decidable p] :
    mlp w1 w2 (fun k => x k * if p then 1 else 0) q = if p then mlp w1 w2 x q else 0 := by
  by_cases h : p
  · simp [h]
  · simp [h, mlp]

/-- A sum over 2048 indices is the sum of its four quarters, added in order. -/
theorem sum_quarters (g : Fin 2048 → EReal) (h : ∀ (t : Fin 4) (f : Fin 512), 512 * t.val + f.val < 2048) :
    (((∑ f : Fin 512, g ⟨512 * (0 : Fin 4).val + f.val, h 0 f⟩) + ∑ f : Fin 512, g ⟨512 * (1 : Fin 4).val + f.val, h 1 f⟩)
      + ∑ f : Fin 512, g ⟨512 * (2 : Fin 4).val + f.val, h 2 f⟩) + ∑ f : Fin 512, g ⟨512 * (3 : Fin 4).val + f.val, h 3 f⟩ = ∑ f, g f := by
  rw [← Equiv.sum_comp (finProdFinEquiv (m := 4) (n := 512)) g, Fintype.sum_prod_type, Fin.sum_univ_four]
  have e : ∀ (t : Fin 4) (f : Fin 512), g (finProdFinEquiv (t, f)) = g ⟨512 * t.val + f.val, h t f⟩ := fun t f =>
    congrArg g (Fin.ext (by simp [finProdFinEquiv, Nat.add_comm]))
  simp only [e]

/-- The dot product of two rows of zeros and ones, each with one at most, is whether the ones meet. -/
theorem sum_onehot (a w : BitVec 32) (hw : w.toNat < 128) :
    ∑ l : Fin 128, (if a = BitVec.ofNat 32 l.val then (1 : EReal) else 0) * (if BitVec.ofNat 32 l.val = w then 1 else 0) = if a = w then 1 else 0 := by
  have hl : BitVec.ofNat 32 w.toNat = w := by simp
  rw [Finset.sum_eq_single (⟨w.toNat, hw⟩ : Fin 128)]
  · simp [hl]
  · intro l _ hne
    have : BitVec.ofNat 32 l.val ≠ w := fun h => hne (Fin.ext (by
      have := congrArg BitVec.toNat h
      simp only [BitVec.toNat_ofNat] at this
      have hl := l.isLt
      show l.val = w.toNat
      omega))
    simp [this]
  · simp

/-- What the two experts of place `z` on the ring add for a row routed to `b`. -/
def pair (b : BitVec 32) (Y : Fin 8 → EReal) (z : Fin 4) : EReal :=
  (if b = BitVec.ofNat 32 (2 * z.val) then Y ⟨2 * z.val, by omega⟩ else 0)
    + (if b = BitVec.ofNat 32 (2 * z.val + 1) then Y ⟨2 * z.val + 1, by omega⟩ else 0)

/-- The reference's chain of selections, the last expert outermost. -/
def chain (b : BitVec 32) (Y : Fin 8 → EReal) : EReal :=
  if b = 7#32 then Y 7 else if b = 6#32 then Y 6 else if b = 5#32 then Y 5 else if b = 4#32 then Y 4
  else if b = 3#32 then Y 3 else if b = 2#32 then Y 2 else if b = 1#32 then Y 1 else if b = 0#32 then Y 0 else 0

/-- The four places' pairs sum to what the chain selects. -/
theorem pairs_eq_chain (b : BitVec 32) (Y : Fin 8 → EReal) : pair b Y 0 + pair b Y 1 + pair b Y 2 + pair b Y 3 = chain b Y := by
  unfold pair chain
  by_cases h7 : b = 7#32
  · subst h7; simp
  by_cases h6 : b = 6#32
  · subst h6; simp
  by_cases h5 : b = 5#32
  · subst h5; simp
  by_cases h4 : b = 4#32
  · subst h4; simp
  by_cases h3 : b = 3#32
  · subst h3; simp
  by_cases h2 : b = 2#32
  · subst h2; simp
  by_cases h1 : b = 1#32
  · subst h1; simp
  by_cases h0 : b = 0#32
  · subst h0; simp
  simp [h0, h1, h2, h3, h4, h5, h6, h7]

/-- The ring adds the four pairs starting at any place. -/
theorem ring_eq_chain (b : BitVec 32) (Y : Fin 8 → EReal) (z : Fin 4) :
    pair b Y z + (pair b Y (z + 3) + (pair b Y (z + 2) + pair b Y (z + 1))) = chain b Y := by
  rw [← pairs_eq_chain]
  fin_cases z
  · show pair b Y 0 + (pair b Y 3 + (pair b Y 2 + pair b Y 1)) = _
    abel
  · show pair b Y 1 + (pair b Y 0 + (pair b Y 3 + pair b Y 2)) = _
    abel
  · show pair b Y 2 + (pair b Y 1 + (pair b Y 0 + pair b Y 3)) = _
    abel
  · show pair b Y 3 + (pair b Y 2 + (pair b Y 1 + pair b Y 0)) = _
    abel

end Cert.Proof.Sums

end
-- ==== Proof.Entries.lean ====
/-
  The pieces of the kernel's arithmetic read at one entry, over the extended reals: a quarter of an expert's
  block is a double sum, a masked chunk is the chunk times whether the row is routed to the expert.
-/
module

public import proofs.«01_k».proof.Proof.Compute
public import proofs.«01_k».proof.Proof.Sums
public import Idealize.ShloMosaic.Lib.MatmulPlain
public import Idealize.ShloMosaic.Lib.ValueIdx
public import Idealize.ShloMosaic.Lib.Pipeline.Value
public import Idealize.ShloMosaic.Lib.Pointwise.ElementwiseCore

@[expose] public section

set_option maxRecDepth 16384

noncomputable section

namespace Cert.KernelIdeal.Ring

open Cert.KernelIdeal Cert.KernelIdeal.Gen Idealize.ShloMosaic Idealize.ShloMosaic.ValueIdx
open scoped BigOperators

/-- One entry of a quarter: the hidden columns' clipped sums times the second matrix's column. -/
theorem tile_apply (xm : FVec Ideal S1024x1024 .bf16) (a : Vec Ideal S1x1024x512 .bf16) (b : Vec Ideal S1x512x1024 .bf16) (r q : Fin 1024) :
    tile xm a b (ix2 r q)
      = ∑ f : Fin 512, max (∑ k : Fin 1024, xm (ix2 r k) * a (ix3 (0 : Fin 1) k f)) (0 : EReal) * b (ix3 (0 : Fin 1) f q) := by
  have h2 := Ideal.matmul_plain_apply (M := 1024) (K := 512) (N := 1024) (φ₁ := .bf16) (φ₂ := .bf16) none
    (truncf .bf16 (maximumf (matmul dot_S1024x1024_S1024x512_S1024x512_1_0_0_1_n_n none xm
      (shapeCast S1024x512 a shapeCasts_S1x1024x512_S1024x512 : FVec Ideal S1024x512 .bf16) (constant S1024x512 .f32 0x00000000#32))
        (broadcast S1024x512 (Scalar.ofBits .f32 0x00000000#32 : Ideal .f32))) bitsLt_bf16_f32)
    (shapeCast S512x1024 b shapeCasts_S1x512x1024_S512x1024 : FVec Ideal S512x1024 .bf16) (constant S1024x1024 .f32 0x00000000#32) r q
  refine (show tile xm a b (ix2 r q) = _ from h2).trans ?_
  rw [show (constant (F := Ideal) S1024x1024 .f32 0x00000000#32) (ix2 r q) = (0 : EReal) from Ideal.ofBits_zero_f32, zero_add]
  refine Finset.sum_congr rfl fun f _ => ?_
  have h1 := Ideal.matmul_plain_apply (M := 1024) (K := 1024) (N := 512) (φ₁ := .bf16) (φ₂ := .bf16) none xm
      (shapeCast S1024x512 a shapeCasts_S1x1024x512_S1024x512 : FVec Ideal S1024x512 .bf16) (constant S1024x512 .f32 0x00000000#32) r f
  rw [show (constant (F := Ideal) S1024x512 .f32 0x00000000#32) (ix2 r f) = (0 : EReal) from Ideal.ofBits_zero_f32, zero_add] at h1
  have hb : (shapeCast S512x1024 b shapeCasts_S1x512x1024_S512x1024 : FVec Ideal S512x1024 .bf16) (ix2 f q) = b (ix3 (0 : Fin 1) f q) :=
    shapeCast_apply b _ _ _ (by
      rw [Shape.rowMajor_val_three, Shape.rowMajor_val_two]
      show (0 * 512 + f.val) * 1024 + q.val = f.val * 1024 + q.val
      omega)
  have ha : ∀ k : Fin 1024, (shapeCast S1024x512 a shapeCasts_S1x1024x512_S1024x512 : FVec Ideal S1024x512 .bf16) (ix2 k f) = a (ix3 (0 : Fin 1) k f) := fun k =>
    shapeCast_apply a _ _ _ (by
      rw [Shape.rowMajor_val_three, Shape.rowMajor_val_two]
      show (0 * 1024 + k.val) * 512 + f.val = k.val * 512 + f.val
      omega)
  simp only [ha] at h1
  rw [hb]
  refine congrArg (· * b (ix3 (0 : Fin 1) f q)) ?_
  exact congrArg₂ (max : EReal → EReal → EReal) h1 Ideal.ofBits_zero_f32

/-- A same-shape reshape changes nothing. -/
theorem recast_eq (v : FVec Ideal S1024x1024 .f32) : recast v = v := shapeCast_self v _

/-- Rounding for the wire and widening again changes nothing over the extended reals. -/
theorem unwire_wire (v : FVec Ideal S1024x1024 .f32) : unwire (wire v) = v := by
  unfold unwire wire
  rw [shapeCast_shapeCast]
  rfl

/-- A slab laid down as a slot and read back is the slab. -/
theorem slab_read (S : Vec Ideal S1024x1152 .bf16) :
    (shapeCast S1024x1152 (slabOf S) shapeCasts_S1x1024x1152_S1024x1152 : FVec Ideal S1024x1152 .bf16) = S := by
  unfold slabOf
  rw [shapeCast_shapeCast]
  exact shapeCast_self S _

/-- The lane number of a lane of the selector. -/
theorem lane_apply (l : Fin 128) : iota .tc S1x128 32 [1] iota_S1x128_d1_w32 (ix2 (0 : Fin 1) l) = BitVec.ofNat 32 l.val := by
  show BitVec.ofNat 32 (0 * 128 + l.val) = _
  rw [Nat.zero_mul, Nat.zero_add]

/-- A word comparison for equality, widened and made a number, is one or zero. -/
theorem eq_num (a b : BitVec 32) :
    (FloatOps.sitofp (F := Ideal) .f32 ((IntOp.cmpi .eq a b).setWidth 32) : EReal) = if a = b then 1 else 0 := by
  by_cases h : a = b
  · subst h
    simp [IntOp.cmpi, FloatOps.sitofp]
  · have e : IntOp.cmpi .eq a b = 0#1 := by
      show BitVec.ofBool (a == b) = 0#1
      rw [beq_eq_false_iff_ne.2 h]
      rfl
    rw [e, if_neg h]
    simp [FloatOps.sitofp]

/-- The routing column of a slab and the selector, multiplied and summed over the lanes. -/
def routed (S : Vec Ideal S1024x1152 .bf16) (w : BitVec 32) (r : Fin 1024) : EReal :=
  ∑ l : Fin 128, S (ix2 r (⟨1024 + l.val, by omega⟩ : Fin 1152)) * if BitVec.ofNat 32 l.val = w then 1 else 0

/-- One entry of a masked chunk: the chunk's entry times the row's routing sum. -/
theorem masked_apply (z j : BitVec 32) (S : Vec Ideal S1024x1152 .bf16) (r k : Fin 1024) :
    masked z j (slabOf S) (ix2 r k)
      = (S (ix2 r (⟨k.val, by omega⟩ : Fin 1152)) : EReal) * routed S (Scalar.addi (Scalar.muli 2#32 z) j) r := by
  unfold masked
  rw [slab_read, mulf_apply]
  have e1 : extractStridedSlice S1024x1024 ![0, 0] S slices_S1024x1152_o0_0_S1024x1024 (ix2 r k) = S (ix2 r (⟨k.val, by omega⟩ : Fin 1152)) :=
    extractStridedSlice_apply ![0, 0] S _ _ _ (by
      intro a
      match a with
      | ⟨0, _⟩ => exact (Nat.zero_add _).symm
      | ⟨1, _⟩ => exact (Nat.zero_add _).symm)
  rw [e1]
  refine congrArg (fun y : EReal => (S (ix2 r (⟨k.val, by omega⟩ : Fin 1152)) : EReal) * y) ?_
  refine (broadcastTo_apply _ broadcasts_S1024x1_S1024x1024 (ix2 r k) (ix2 r (0 : Fin 1)) (by
    intro a
    match a with
    | ⟨0, _⟩ => rfl
    | ⟨1, _⟩ => rfl)).trans ?_
  rw [truncf_apply]
  refine (shapeCast_apply _ shapeCasts_S1024_S1024x1 (ix2 r (0 : Fin 1)) (ix1 r) (by
    rw [Shape.rowMajor_val_one, Shape.rowMajor_val_two]
    show r.val = r.val * 1 + 0
    omega)).trans ?_
  refine (Ideal.multiReduction_add_single _ _ reduces_S1024x128_S1024 (.inl rfl) rfl (ix1 r)).trans ?_
  refine Finset.sum_congr rfl fun (l : Fin 128) _ => ?_
  have hl : reduces_S1024x128_S1024.lift (ix1 r) l = ix2 r l := by
    funext a
    match a with
    | ⟨0, _⟩ => rfl
    | ⟨1, _⟩ => rfl
  rw [hl, extf_apply, mulf_apply]
  have e2 : extractStridedSlice S1024x128 ![0, 1024] S slices_S1024x1152_o0_1024_S1024x128 (ix2 r l) = S (ix2 r (⟨1024 + l.val, by omega⟩ : Fin 1152)) :=
    extractStridedSlice_apply ![0, 1024] S _ _ _ (by
      intro a
      match a with
      | ⟨0, _⟩ => exact (Nat.zero_add _).symm
      | ⟨1, _⟩ => rfl)
  rw [e2]
  refine congrArg (fun y : EReal => (S (ix2 r (⟨1024 + l.val, by omega⟩ : Fin 1152)) : EReal) * y) ?_
  refine (broadcastTo_apply _ broadcasts_S1x128_S1024x128 (ix2 r l) (ix2 (0 : Fin 1) l) (by
    intro a
    match a with
    | ⟨0, _⟩ => rfl
    | ⟨1, _⟩ => rfl)).trans ?_
  rw [truncf_apply, sitofp_apply, extui_apply, cmpi_apply, lane_apply, broadcast_apply]
  exact eq_num _ _

end Cert.KernelIdeal.Ring

end
-- ==== Proof.Partials.lean ====
/-
  The kernel's partial sums and its result read at one entry, over the extended reals, given what the
  devices' slabs and weights are blocks of.
-/
module

public import proofs.«01_k».proof.Proof.Body
public import proofs.«01_k».proof.Proof.Entries

@[expose] public section

set_option maxRecDepth 16384

noncomputable section

namespace Cert.KernelIdeal.Ring

open Cert.KernelIdeal Cert.KernelIdeal.Gen Cert.Proof.Sums Idealize.ShloMosaic Idealize.ShloMosaic.ValueIdx
open scoped BigOperators

/-- The stored first weights' quarter, at an entry. -/
theorem w1Blk_apply (W1 : Vec Ideal S2x1024x2048 .bf16) (j : Fin 2) (t : Fin 4) (k : Fin 1024) (f : Fin 512) :
    w1Blk W1 j t (ix3 (0 : Fin 1) k f) = W1 (ix3 j k (⟨512 * t.val + f.val, by omega⟩ : Fin 2048)) := by
  refine congrArg W1 (funext fun a => Fin.ext ?_)
  match a with
  | ⟨0, _⟩ => show j.val + 1 * 0 = j.val; omega
  | ⟨1, _⟩ => show 0 + 1 * k.val = k.val; omega
  | ⟨2, _⟩ => show 512 * t.val + 1 * f.val = 512 * t.val + f.val; omega

/-- The stored second weights' quarter, at an entry. -/
theorem w2Blk_apply (W2 : Vec Ideal S2x2048x1024 .bf16) (j : Fin 2) (t : Fin 4) (f : Fin 512) (q : Fin 1024) :
    w2Blk W2 j t (ix3 (0 : Fin 1) f q) = W2 (ix3 j (⟨512 * t.val + f.val, by omega⟩ : Fin 2048) q) := by
  refine congrArg W2 (funext fun a => Fin.ext ?_)
  match a with
  | ⟨0, _⟩ => show j.val + 1 * 0 = j.val; omega
  | ⟨1, _⟩ => show 512 * t.val + 1 * f.val = 512 * t.val + f.val; omega
  | ⟨2, _⟩ => show 0 + 1 * q.val = q.val; omega

section
variable (W1 : Vec Ideal S2x1024x2048 .bf16) (W2 : Vec Ideal S2x2048x1024 .bf16)

/-- Local expert `j`'s block on row `r` of `xm`, output `q`. -/
def blockAt (xm : FVec Ideal S1024x1024 .bf16) (j : Fin 2) (r q : Fin 1024) : EReal :=
  mlp (fun k f => W1 (ix3 j k f)) (fun f q => W2 (ix3 j f q)) (fun k => xm (ix2 r k)) q

/-- One hidden column's share of it. -/
def share (xm : FVec Ideal S1024x1024 .bf16) (j : Fin 2) (r q : Fin 1024) (f : Fin 2048) : EReal :=
  max (∑ k : Fin 1024, (xm (ix2 r k) : EReal) * W1 (ix3 j k f)) 0 * W2 (ix3 j f q)

/-- A quarter is the sum of its columns' shares. -/
theorem quarter_apply (xm : FVec Ideal S1024x1024 .bf16) (j : Fin 2) (t : Fin 4) (r q : Fin 1024) :
    (quarter W1 W2 xm j t (ix2 r q) : EReal) = ∑ f : Fin 512, share W1 W2 xm j r q ⟨512 * t.val + f.val, by omega⟩ := by
  unfold quarter
  rw [tile_apply]
  refine Finset.sum_congr rfl fun f _ => ?_
  rw [w2Blk_apply]
  simp only [w1Blk_apply]
  rfl

/-- The four quarters are the block. -/
theorem quarters_apply (xm : FVec Ideal S1024x1024 .bf16) (j : Fin 2) (r q : Fin 1024) :
    (((quarter W1 W2 xm j 0 (ix2 r q) + quarter W1 W2 xm j 1 (ix2 r q) + quarter W1 W2 xm j 2 (ix2 r q) + quarter W1 W2 xm j 3 (ix2 r q)) : EReal))
      = blockAt W1 W2 xm j r q := by
  rw [quarter_apply, quarter_apply, quarter_apply, quarter_apply]
  exact sum_quarters (share W1 W2 xm j r q) fun t f => by omega

variable (ld st : FVec Ideal S1024x1024 .f32 → FVec Ideal S1024x1024 .f32) (hld : ∀ v, ld v = v) (hst : ∀ v, st v = v)
include hld hst

/-- An expert's block stored over an accumulator, at an entry. -/
theorem firstV_apply (z : BitVec 32) (X : Vec Ideal S1x1024x1152 .bf16) (j : Fin 2) (r q : Fin 1024) :
    (firstV W1 W2 ld st z X j (ix2 r q) : EReal) = blockAt W1 W2 (masked z (BitVec.ofNat 32 j.val) X) j r q := by
  rw [← quarters_apply]
  unfold firstV plus
  simp only [hld, hst]
  rfl

/-- An expert's block added to an accumulator, at an entry. -/
theorem nextV_apply (a : FVec Ideal S1024x1024 .f32) (z : BitVec 32) (X : Vec Ideal S1x1024x1152 .bf16) (j : Fin 2) (r q : Fin 1024) :
    (nextV W1 W2 ld st a z X j (ix2 r q) : EReal) = (a (ix2 r q) : EReal) + blockAt W1 W2 (masked z (BitVec.ofNat 32 j.val) X) j r q := by
  rw [← quarters_apply]
  unfold nextV plus
  simp only [hld, hst]
  show (((a (ix2 r q) : EReal) + quarter W1 W2 _ j 0 (ix2 r q) + quarter W1 W2 _ j 1 (ix2 r q)) + quarter W1 W2 _ j 2 (ix2 r q)) + quarter W1 W2 _ j 3 (ix2 r q) = _
  simp only [add_assoc]

end

/-! ## The ring -/

/-- A device's place along the ring. -/
def place (c : Dev nD) : Fin 4 := ⟨c.val % 4, Nat.mod_lt _ (by omega)⟩

theorem place_prv (c : Dev nD) : place (prv c) = place c + 3 := by revert c; decide
theorem prv_four (c : Dev nD) : prv (prv (prv (prv c))) = c := by revert c; decide
theorem zWord_eq (c : Dev nD) : zWord c = BitVec.ofNat 32 (place c).val := by revert c; decide

/-- The selector's expert number. -/
theorem expert_word (z : Fin 4) (j : Fin 2) :
    Scalar.addi (Scalar.muli 2#32 (BitVec.ofNat 32 z.val)) (BitVec.ofNat 32 j.val) = BitVec.ofNat 32 (2 * z.val + j.val) := by
  revert z j; decide

/-- What the devices hold is what their places' blocks of whole arrays are: rows `1024 z + r` and their
    routing, experts `2 z + j`. -/
structure Blocks (S : Dev nD → Vec Ideal S1024x1152 .bf16) (W1 : Dev nD → Vec Ideal S2x1024x2048 .bf16) (W2 : Dev nD → Vec Ideal S2x2048x1024 .bf16)
    (x : Fin 4096 → Fin 1024 → EReal) (a : Fin 4096 → BitVec 32) (w1 : Fin 8 → Fin 1024 → Fin 2048 → EReal) (w2 : Fin 8 → Fin 2048 → Fin 1024 → EReal) : Prop where
  row : ∀ d (r k : Fin 1024), (S d (ix2 r (⟨k.val, by omega⟩ : Fin 1152)) : EReal) = x ⟨1024 * (place d).val + r.val, by omega⟩ k
  lane : ∀ d (r : Fin 1024) (l : Fin 128), (S d (ix2 r (⟨1024 + l.val, by omega⟩ : Fin 1152)) : EReal)
    = if a ⟨1024 * (place d).val + r.val, by omega⟩ = BitVec.ofNat 32 l.val then 1 else 0
  first : ∀ d (j : Fin 2) k f, (W1 d (ix3 j k f) : EReal) = w1 ⟨2 * (place d).val + j.val, by omega⟩ k f
  second : ∀ d (j : Fin 2) f q, (W2 d (ix3 j f q) : EReal) = w2 ⟨2 * (place d).val + j.val, by omega⟩ f q

section
variable {S : Dev nD → Vec Ideal S1024x1152 .bf16} {W1 : Dev nD → Vec Ideal S2x1024x2048 .bf16} {W2 : Dev nD → Vec Ideal S2x2048x1024 .bf16}
  {x : Fin 4096 → Fin 1024 → EReal} {a : Fin 4096 → BitVec 32} {w1 : Fin 8 → Fin 1024 → Fin 2048 → EReal} {w2 : Fin 8 → Fin 2048 → Fin 1024 → EReal}

/-- The eight experts' outputs for one row. -/
def outs (x : Fin 4096 → Fin 1024 → EReal) (w1 : Fin 8 → Fin 1024 → Fin 2048 → EReal) (w2 : Fin 8 → Fin 2048 → Fin 1024 → EReal)
    (i : Fin 4096) (q : Fin 1024) (e : Fin 8) : EReal := mlp (w1 e) (w2 e) (x i) q

variable (h : Blocks S W1 W2 x a w1 w2)
include h

/-- Device `c`'s local expert `j` on device `d`'s chunk: the expert's output for the rows routed to it, zero for the rest. -/
theorem blockAt_apply (c d : Dev nD) (j : Fin 2) (r q : Fin 1024) :
    blockAt (W1 c) (W2 c) (masked (zWord c) (BitVec.ofNat 32 j.val) (slabOf (S d))) j r q
      = if a ⟨1024 * (place d).val + r.val, by omega⟩ = BitVec.ofNat 32 (2 * (place c).val + j.val)
        then outs x w1 w2 ⟨1024 * (place d).val + r.val, by omega⟩ q ⟨2 * (place c).val + j.val, by omega⟩ else 0 := by
  have hr : routed (S d) (Scalar.addi (Scalar.muli 2#32 (zWord c)) (BitVec.ofNat 32 j.val)) r
      = if a ⟨1024 * (place d).val + r.val, by omega⟩ = BitVec.ofNat 32 (2 * (place c).val + j.val) then 1 else 0 := by
    rw [zWord_eq, expert_word]
    unfold routed
    simp only [h.lane]
    refine sum_onehot _ _ ?_
    rw [BitVec.toNat_ofNat]
    have := (place c).isLt; have := j.isLt
    omega
  unfold blockAt outs
  simp only [masked_apply, hr, h.row, h.first, h.second]
  exact mlp_mask _ _ _ _ _

/-- A partial sum on the chunk of the device `s` places back, at an entry. -/
theorem accV_apply (s : ℕ) (c : Dev nD) (r q : Fin 1024) :
    (accV S W1 W2 s c (ix2 r q) : EReal)
      = pair (a ⟨1024 * (place (prv^[s] c)).val + r.val, by omega⟩) (outs x w1 w2 ⟨1024 * (place (prv^[s] c)).val + r.val, by omega⟩ q) (place c) := by
  unfold accV bothV chunkV
  rw [nextV_apply (W1 c) (W2 c) _ _ (fun _ => rfl) recast_eq, firstV_apply (W1 c) (W2 c) _ _ (fun _ => rfl) recast_eq, blockAt_apply h, blockAt_apply h]
  rfl

/-- A device's sum on its own chunk, at an entry. -/
theorem ownV_apply (c : Dev nD) (r q : Fin 1024) :
    (ownV S W1 W2 c (ix2 r q) : EReal)
      = pair (a ⟨1024 * (place c).val + r.val, by omega⟩) (outs x w1 w2 ⟨1024 * (place c).val + r.val, by omega⟩ q) (place c) := by
  unfold ownV ownFirst chunkV
  rw [nextV_apply (W1 c) (W2 c) _ _ recast_eq (fun _ => rfl), firstV_apply (W1 c) (W2 c) _ _ recast_eq (fun _ => rfl)]
  show blockAt (W1 c) (W2 c) (masked (zWord c) (BitVec.ofNat 32 (0 : Fin 2).val) (slabOf (S c))) 0 r q
    + blockAt (W1 c) (W2 c) (masked (zWord c) (BitVec.ofNat 32 (1 : Fin 2).val) (slabOf (S c))) 1 r q = _
  rw [blockAt_apply h, blockAt_apply h]
  rfl

/-- The result at an entry: the output of the one expert the row is routed to, zero if it is routed to none. -/
theorem outV_apply (c : Dev nD) (r q : Fin 1024) :
    (outV S W1 W2 c (ix2 r q) : EReal)
      = chain (a ⟨1024 * (place c).val + r.val, by omega⟩) (outs x w1 w2 ⟨1024 * (place c).val + r.val, by omega⟩ q) := by
  unfold outV part2 part1 part0
  rw [unwire_wire, unwire_wire, unwire_wire, recast_eq]
  show (ownV S W1 W2 c (ix2 r q) : EReal) + ((accV S W1 W2 3 (prv c) (ix2 r q) : EReal)
    + ((accV S W1 W2 2 (prv (prv c)) (ix2 r q) : EReal) + accV S W1 W2 1 (prv (prv (prv c))) (ix2 r q))) = _
  rw [ownV_apply h, accV_apply h, accV_apply h, accV_apply h]
  simp only [Function.iterate_succ, Function.iterate_zero, Function.comp_apply, id_eq, prv_four]
  have e1 : place (prv c) = place c + 3 := place_prv c
  have e2 : place (prv (prv c)) = place c + 2 := by rw [place_prv, place_prv, add_assoc]; rfl
  have e3 : place (prv (prv (prv c))) = place c + 1 := by rw [place_prv, e2, add_assoc]; rfl
  rw [e1, e2, e3]
  exact ring_eq_chain _ _ _

end

end Cert.KernelIdeal.Ring

end
-- ==== Proof.Slabs.lean ====
/-
  What the host operations before the region put in a device's slab: its rows, and beside them a one in the lane
  of the expert each row is routed to.
-/
module

public import proofs.«01_k».proof.Proof.Region
public import proofs.«01_k».proof.Proof.Gen.KernelIdeal.Frame
public import Idealize.ShloMosaic.Lib.StableHlo.Run
public import Idealize.ShloMosaic.Lib.ValueIdx
public import Idealize.ShloMosaic.Lib.IdealHost
public import Idealize.ShloMosaic.Lib.Pipeline.Value
public import Idealize.ShloMosaic.Lib.Pointwise.ElementwiseCore

@[expose] public section

set_option maxRecDepth 16384

noncomputable section

namespace Cert.KernelIdeal.Ring

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ)

/-- The routing matrix: whether a row's expert is the lane's number. -/
def lanes (a : IVec S1024 32) : FVec Ideal S1024x128 .bf16 :=
  uitofp .bf16 (cmpi .eq (broadcastInDim S1024x128 ![0, 1] bcast_S1024x1_S1024x128_0_1 (broadcastInDim S1024x1 ![0] bcast_S1024_S1024x1_0 a))
    (broadcastInDim S1024x128 ![0, 1] bcast_S1x128_S1024x128_0_1 (broadcastInDim S1x128 ![1] bcast_S128_S1x128_1 (iotaInDim S128 32 0))))

/-- The slab is the rows and the routing matrix side by side. -/
theorem slabs_eq (c : Dev nD) : slabs m c
    = concatenate S1024x1152 1 [⟨S1024x1024, (m ((c : Thread nD τ).loc main_arg0) : FVec Ideal S1024x1024 .bf16)⟩, ⟨S1024x128, lanes (m ((c : Thread nD τ).loc main_arg1))⟩]
      concatenates_S1024x1024_S1024x128_S1024x1152_d1 := by
  unfold slabs V₁
  after_results
  rfl

/-- No host operation writes the weights. -/
theorem wts1_eq (c : Dev nD) : wts1 m c = m ((c : Thread nD τ).loc main_arg2) := V_main_arg2 m c
theorem wts2_eq (c : Dev nD) : wts2 m c = m ((c : Thread nD τ).loc main_arg3) := V_main_arg3 m c

/-- The slab's first 1024 columns are the device's rows. -/
theorem slabs_row (c : Dev nD) (r k : Fin 1024) :
    slabs m c (ix2 r (⟨k.val, by omega⟩ : Fin 1152)) = (m ((c : Thread nD τ).loc main_arg0) : FVec Ideal S1024x1024 .bf16) (ix2 r k) := by
  rw [slabs_eq]
  refine concatenate_pair_apply_left (t := S1024x1152) (s₁ := S1024x1024) (s₂ := S1024x128) 1 (m ((c : Thread nD τ).loc main_arg0) : FVec Ideal S1024x1024 .bf16)
    (lanes (m ((c : Thread nD τ).loc main_arg1))) concatenates_S1024x1024_S1024x128_S1024x1152_d1 (ix2 r (⟨k.val, by omega⟩ : Fin 1152)) rfl (ix2 r k) fun b => ?_
  match b with
  | ⟨0, _⟩ => rfl
  | ⟨1, _⟩ => rfl

/-- The routing matrix at an entry. -/
theorem lanes_apply (a : IVec S1024 32) (r : Fin 1024) (l : Fin 128) :
    (lanes a (ix2 r l) : EReal) = if a (ix1 r) = BitVec.ofNat 32 l.val then 1 else 0 := by
  have e1 : broadcastInDim S1024x128 ![0, 1] bcast_S1024x1_S1024x128_0_1 (broadcastInDim S1024x1 ![0] bcast_S1024_S1024x1_0 a) (ix2 r l) = a (ix1 r) := by
    refine (broadcastInDim_apply _ _ _ (ix2 r l) (ix2 r (0 : Fin 1)) fun b => ?_).trans (broadcastInDim_apply _ _ _ _ (ix1 r) fun b => ?_)
    · match b with
      | ⟨0, _⟩ => rfl
      | ⟨1, _⟩ => rfl
    · match b with
      | ⟨0, _⟩ => rfl
  have e2 : broadcastInDim S1024x128 ![0, 1] bcast_S1x128_S1024x128_0_1 (broadcastInDim S1x128 ![1] bcast_S128_S1x128_1 (iotaInDim S128 32 0)) (ix2 r l)
      = BitVec.ofNat 32 l.val := by
    refine (broadcastInDim_apply _ _ _ (ix2 r l) (ix2 (0 : Fin 1) l) fun b => ?_).trans (broadcastInDim_apply _ _ _ _ (ix1 l) fun b => ?_)
    · match b with
      | ⟨0, _⟩ => rfl
      | ⟨1, _⟩ => rfl
    · match b with
      | ⟨0, _⟩ => rfl
  unfold lanes
  rw [uitofp_apply, cmpi_apply, e1, e2]
  by_cases h : a (ix1 r) = BitVec.ofNat 32 l.val
  · rw [if_pos h, h]
    simp [IntOp.cmpi, FloatOps.uitofp]
  · have e : IntOp.cmpi .eq (a (ix1 r)) (BitVec.ofNat 32 l.val) = 0#1 := by
      show BitVec.ofBool (a (ix1 r) == BitVec.ofNat 32 l.val) = 0#1
      rw [beq_eq_false_iff_ne.2 h]
      rfl
    rw [e, if_neg h]
    simp [FloatOps.uitofp]

/-- The slab's last 128 columns are the routing matrix. -/
theorem slabs_lane (c : Dev nD) (r : Fin 1024) (l : Fin 128) :
    (slabs m c (ix2 r (⟨1024 + l.val, by omega⟩ : Fin 1152)) : EReal)
      = if (m ((c : Thread nD τ).loc main_arg1) : IVec S1024 32) (ix1 r) = BitVec.ofNat 32 l.val then 1 else 0 := by
  rw [slabs_eq, ← lanes_apply]
  refine concatenate_pair_apply_right (t := S1024x1152) (s₁ := S1024x1024) (s₂ := S1024x128) 1 (m ((c : Thread nD τ).loc main_arg0) : FVec Ideal S1024x1024 .bf16)
    (lanes (m ((c : Thread nD τ).loc main_arg1))) concatenates_S1024x1024_S1024x128_S1024x1152_d1 (ix2 r (⟨1024 + l.val, by omega⟩ : Fin 1152)) rfl rfl (ix2 r l) (fun b hb => ?_) ?_
  · match b with
    | ⟨0, _⟩ => rfl
    | ⟨1, _⟩ => exact absurd rfl hb
  · show l.val + 1024 = 1024 + l.val
    omega

end Cert.KernelIdeal.Ring

end
-- ==== Proof.RefValue.lean ====
/-
  The reference's result read at one entry, over the extended reals: the chain of selections over the eight
  experts' outputs.
-/
module

public import proofs.«01_k».proof.Proof.Sums
public import proofs.«01_k».proof.Proof.Gen.ReferenceIdeal.Run
public import Idealize.ShloMosaic.Lib.ValueIdx
public import Idealize.ShloMosaic.Lib.MatmulPlain
public import Idealize.ShloMosaic.Lib.StackMember
public import Idealize.ShloMosaic.Lib.IdealHost
public import Idealize.ShloMosaic.Lib.Pipeline.Value
public import Idealize.ShloMosaic.Lib.Pointwise.ElementwiseCore

@[expose] public section

set_option maxRecDepth 16384

noncomputable section

namespace Cert.ReferenceIdeal.Hand

open Cert.ReferenceIdeal Cert.ReferenceIdeal.Gen Cert.Proof.Sums Idealize.ShloMosaic Idealize.ShloMosaic.ValueIdx
open Idealize.ShloMosaic.TcCoe Idealize.SL.Sem
open scoped BigOperators

/-- One expert's output as the reference writes it, from the expert's two matrices. -/
def expert (x : FVec Ideal S4096x1024 .bf16) (u : FVec Ideal S1024x2048 .bf16) (v : FVec Ideal S2048x1024 .bf16) : FVec Ideal S4096x1024 .f32 :=
  Host.dotGeneral dot_S4096x2048_S2048x1024_S4096x1024_1_0_0_1_n_n none
    (maximumf (Host.dotGeneral dot_S4096x1024_S1024x2048_S4096x2048_1_0_0_1_n_n none (extf .f32 x bitsLt_bf16_f32) (extf .f32 u bitsLt_bf16_f32))
      (broadcastInDim S4096x2048 ![] bcast_S_S4096x2048 (constant S_ .f32 0x00000000#32)))
    (extf .f32 v bitsLt_bf16_f32)

/-- Whether each row is routed to expert `e`, along the row. -/
def isExpert (a : IVec S4096 32) (e : BitVec 32) : IVec S4096x1024 1 :=
  broadcastInDim S4096x1024 ![0, 1] bcast_S4096x1_S4096x1024_0_1 (broadcastInDim S4096x1 ![0] bcast_S4096_S4096x1_0
    (cmpi .eq a (broadcastInDim S4096 ![] bcast_S_S4096 (constantI S_ 32 e))))

/-- An expert's output at an entry is the two-layer block. -/
theorem expert_apply (x : FVec Ideal S4096x1024 .bf16) (u : FVec Ideal S1024x2048 .bf16) (v : FVec Ideal S2048x1024 .bf16) (i : Fin 4096) (q : Fin 1024) :
    (expert x u v (ix2 i q) : EReal) = mlp (fun k f => u (ix2 k f)) (fun f q => v (ix2 f q)) (fun k => x (ix2 i k)) q := by
  unfold expert mlp
  refine (StackMember.dotGeneral_plain_apply (m := 4096) (k := 2048) (n := 1024) none _ _ i q).trans ?_
  refine Finset.sum_congr rfl fun f _ => ?_
  rw [maximumf_apply, broadcastInDim_scalar_apply]
  refine congrArg₂ (fun a b : EReal => max a b * (v (ix2 f q) : EReal)) ?_ Ideal.ofBits_zero_f32
  exact StackMember.dotGeneral_plain_apply (m := 4096) (k := 1024) (n := 2048) none _ _ i f

/-- A selection at an entry is on the row's expert. -/
theorem select_isExpert (a : IVec S4096 32) (e : BitVec 32) (y z : FVec Ideal S4096x1024 .f32) (i : Fin 4096) (q : Fin 1024) :
    select (isExpert a e) y z (ix2 i q) = if a (ix1 i) = e then y (ix2 i q) else z (ix2 i q) := by
  have h : isExpert a e (ix2 i q) = IntOp.cmpi .eq (a (ix1 i)) e := by
    unfold isExpert
    refine (broadcastInDim_apply _ _ _ (ix2 i q) (ix2 i (0 : Fin 1)) fun b => ?_).trans
      ((broadcastInDim_apply _ _ _ _ (ix1 i) fun b => ?_).trans ?_)
    · match b with
      | ⟨0, _⟩ => rfl
      | ⟨1, _⟩ => rfl
    · match b with
      | ⟨0, _⟩ => rfl
    · rw [cmpi_apply, broadcastInDim_scalar_apply]
      rfl
  rw [select_apply, h]
  by_cases he : a (ix1 i) = e
  · rw [if_pos he, he, show IntOp.cmpi .eq e e = 1#1 by simp [IntOp.cmpi], select_one]
  · have e0 : IntOp.cmpi .eq (a (ix1 i)) e = 0#1 := by
      show BitVec.ofBool (a (ix1 i) == e) = 0#1
      rw [beq_eq_false_iff_ne.2 he]
      rfl
    rw [e0, if_neg he, select_zero]

/-- Expert `e`'s first matrix, cut out of the stack; its second. -/
def w1At (w : FVec Ideal S8x1024x2048 .bf16) (e : ℕ) (h : S8x1024x2048.Slices ![e, 0, 0] S1x1024x2048) : FVec Ideal S1024x2048 .bf16 :=
  shapeCast _ (extractStridedSlice S1x1024x2048 ![e, 0, 0] w h) shapeCasts_S1x1024x2048_S1024x2048
def w2At (w : FVec Ideal S8x2048x1024 .bf16) (e : ℕ) (h : S8x2048x1024.Slices ![e, 0, 0] S1x2048x1024) : FVec Ideal S2048x1024 .bf16 :=
  shapeCast _ (extractStridedSlice S1x2048x1024 ![e, 0, 0] w h) shapeCasts_S1x2048x1024_S2048x1024

theorem w1At_apply (w : FVec Ideal S8x1024x2048 .bf16) (e : Fin 8) (h) (k : Fin 1024) (f : Fin 2048) : w1At w e.val h (ix2 k f) = w (ix3 e k f) := by
  unfold w1At
  refine (shapeCast_apply _ _ _ (ix3 (0 : Fin 1) k f) ?_).trans (extractStridedSlice_apply _ w h _ _ fun a => ?_)
  · rw [Shape.rowMajor_val_three, Shape.rowMajor_val_two]
    show (0 * 1024 + k.val) * 2048 + f.val = k.val * 2048 + f.val
    omega
  · match a with
    | ⟨0, _⟩ => rfl
    | ⟨1, _⟩ => exact (Nat.zero_add _).symm
    | ⟨2, _⟩ => exact (Nat.zero_add _).symm

theorem w2At_apply (w : FVec Ideal S8x2048x1024 .bf16) (e : Fin 8) (h) (f : Fin 2048) (q : Fin 1024) : w2At w e.val h (ix2 f q) = w (ix3 e f q) := by
  unfold w2At
  refine (shapeCast_apply _ _ _ (ix3 (0 : Fin 1) f q) ?_).trans (extractStridedSlice_apply _ w h _ _ fun a => ?_)
  · rw [Shape.rowMajor_val_three, Shape.rowMajor_val_two]
    show (0 * 2048 + f.val) * 1024 + q.val = f.val * 1024 + q.val
    omega
  · match a with
    | ⟨0, _⟩ => rfl
    | ⟨1, _⟩ => exact (Nat.zero_add _).symm
    | ⟨2, _⟩ => exact (Nat.zero_add _).symm

/-- Expert `e`'s output at an entry, in the stacks of weights. -/
theorem expert_at (x : FVec Ideal S4096x1024 .bf16) (u : FVec Ideal S8x1024x2048 .bf16) (v : FVec Ideal S8x2048x1024 .bf16) (e : Fin 8) (h1) (h2)
    (i : Fin 4096) (q : Fin 1024) :
    (expert x (w1At u e.val h1) (w2At v e.val h2) (ix2 i q) : EReal)
      = mlp (fun k f => u (ix3 e k f)) (fun f q => v (ix3 e f q)) (fun k => x (ix2 i k)) q := by
  rw [expert_apply]
  simp only [w1At_apply, w2At_apply]

variable (m : (ℓ : Loc nD τ sig) → Buf (Elt Ideal) ℓ) (c : Dev nD)

/-- The reference's arguments, by name. -/
abbrev rows : FVec Ideal S4096x1024 .bf16 := m ((c.tc : Thread nD τ).loc main_arg0)
abbrev assign : IVec S4096 32 := m ((c.tc : Thread nD τ).loc main_arg1)
abbrev stack1 : FVec Ideal S8x1024x2048 .bf16 := m ((c.tc : Thread nD τ).loc main_arg2)
abbrev stack2 : FVec Ideal S8x2048x1024 .bf16 := m ((c.tc : Thread nD τ).loc main_arg3)

/-- The reference's term, one selection of an expert's output around another. -/
theorem res_eq : (Value.res_out0 m c : FVec Ideal S4096x1024 .f32) =
    select (isExpert (assign m c) 7#32) (expert (rows m c) (w1At (stack1 m c) 7 slices_S8x1024x2048_S1x1024x2048_7_0_0) (w2At (stack2 m c) 7 slices_S8x2048x1024_S1x2048x1024_7_0_0))
    (select (isExpert (assign m c) 6#32) (expert (rows m c) (w1At (stack1 m c) 6 slices_S8x1024x2048_S1x1024x2048_6_0_0) (w2At (stack2 m c) 6 slices_S8x2048x1024_S1x2048x1024_6_0_0))
    (select (isExpert (assign m c) 5#32) (expert (rows m c) (w1At (stack1 m c) 5 slices_S8x1024x2048_S1x1024x2048_5_0_0) (w2At (stack2 m c) 5 slices_S8x2048x1024_S1x2048x1024_5_0_0))
    (select (isExpert (assign m c) 4#32) (expert (rows m c) (w1At (stack1 m c) 4 slices_S8x1024x2048_S1x1024x2048_4_0_0) (w2At (stack2 m c) 4 slices_S8x2048x1024_S1x2048x1024_4_0_0))
    (select (isExpert (assign m c) 3#32) (expert (rows m c) (w1At (stack1 m c) 3 slices_S8x1024x2048_S1x1024x2048_3_0_0) (w2At (stack2 m c) 3 slices_S8x2048x1024_S1x2048x1024_3_0_0))
    (select (isExpert (assign m c) 2#32) (expert (rows m c) (w1At (stack1 m c) 2 slices_S8x1024x2048_S1x1024x2048_2_0_0) (w2At (stack2 m c) 2 slices_S8x2048x1024_S1x2048x1024_2_0_0))
    (select (isExpert (assign m c) 1#32) (expert (rows m c) (w1At (stack1 m c) 1 slices_S8x1024x2048_S1x1024x2048_1_0_0) (w2At (stack2 m c) 1 slices_S8x2048x1024_S1x2048x1024_1_0_0))
    (select (isExpert (assign m c) 0#32) (expert (rows m c) (w1At (stack1 m c) 0 slices_S8x1024x2048_S1x1024x2048_0_0_0) (w2At (stack2 m c) 0 slices_S8x2048x1024_S1x2048x1024_0_0_0))
    (broadcastInDim S4096x1024 ![] bcast_S_S4096x1024 (constant S_ .f32 0x00000000#32))))))))) := rfl

/-- The reference's result at an entry: the output of the expert the row is routed to, zero if it is routed to none. -/
theorem res_apply (i : Fin 4096) (q : Fin 1024) :
    ((Value.res_out0 m c : FVec Ideal S4096x1024 .f32) (ix2 i q) : EReal)
      = chain (assign m c (ix1 i)) fun e => mlp (fun k f => stack1 m c (ix3 e k f)) (fun f q => stack2 m c (ix3 e f q)) (fun k => rows m c (ix2 i k)) q := by
  rw [res_eq]
  simp only [select_isExpert]
  rw [broadcastInDim_scalar_apply, show (constant (F := Ideal) S_ .f32 0x00000000#32) ix0 = (0 : EReal) from Ideal.ofBits_zero_f32]
  have e (k : Fin 8) (h1) (h2) := expert_at (rows m c) (stack1 m c) (stack2 m c) k h1 h2 i q
  unfold chain
  exact ite_congr rfl (fun _ => e 7 _ _) fun _ => ite_congr rfl (fun _ => e 6 _ _) fun _ => ite_congr rfl (fun _ => e 5 _ _) fun _ =>
    ite_congr rfl (fun _ => e 4 _ _) fun _ => ite_congr rfl (fun _ => e 3 _ _) fun _ => ite_congr rfl (fun _ => e 2 _ _) fun _ =>
    ite_congr rfl (fun _ => e 1 _ _) fun _ => ite_congr rfl (fun _ => e 0 _ _) fun _ => rfl

end Cert.ReferenceIdeal.Hand

end
-- ==== Proof.Algebraic.lean ====
/-
  The kernel's results are the blocks of the reference's: both are, at each entry, the output of the expert the
  row is routed to.
-/
module

public import proofs.«01_k».proof.Defs
public import proofs.«01_k».proof.Proof.Launch
public import proofs.«01_k».proof.Proof.Partials
public import proofs.«01_k».proof.Proof.Slabs
public import proofs.«01_k».proof.Proof.RefValue

@[expose] public section

noncomputable section

namespace Cert.Proof

open Idealize.ShloMosaic Idealize.ShloMosaic.ValueIdx Idealize.ShloMosaic.TcCoe Idealize.SL.Sem
open Cert.KernelIdeal.Ring (place outV_apply Blocks slabs wts1 wts2 slabs_row slabs_lane wts1_eq wts2_eq)
open Cert.ReferenceIdeal.Hand (rows assign stack1 stack2 res_apply)

/-- A device's place on the ring is the coordinate its blocks are cut by. -/
theorem lin_place (c : Dev Cert.KernelIdeal.nD) : Layout.meshLin [2, 2, 4] c.val [2] = (place c).val := by revert c; decide

section
variable {α : Type} (c : Dev Cert.KernelIdeal.nD)

/-- A device's block of an array cut in rows, at an entry: rows `1024 z` on. -/
theorem rows_block (v : (⟨2, ![4096, 1024]⟩ : Shape).Idx → α) (r k : Fin 1024) :
    (Layout.blockN ⟨2, ![1024, 1024]⟩ ⟨2, ![4096, 1024]⟩ (Layout.meshBlock [2, 2, 4] ![[2], []] c) v) (ix2 r k)
      = v (ix2 (⟨1024 * (place c).val + r.val, by omega⟩ : Fin 4096) k) := by
  rw [Layout.blockN_apply]
  refine congrArg v (funext fun a => Fin.ext ?_)
  rw [Layout.TilesN.idx_val]
  match a with
  | ⟨0, _⟩ =>
    show Layout.meshLin [2, 2, 4] c.val [2] * 1024 + r.val = 1024 * (place c).val + r.val
    rw [lin_place, Nat.mul_comm]
  | ⟨1, _⟩ => show 0 * 1024 + k.val = k.val; omega

/-- A device's block of the routing. -/
theorem assign_block (v : (⟨1, ![4096]⟩ : Shape).Idx → α) (r : Fin 1024) :
    (Layout.blockN ⟨1, ![1024]⟩ ⟨1, ![4096]⟩ (Layout.meshBlock [2, 2, 4] ![[2]] c) v) (ix1 r)
      = v (ix1 (⟨1024 * (place c).val + r.val, by omega⟩ : Fin 4096)) := by
  rw [Layout.blockN_apply]
  refine congrArg v (funext fun a => Fin.ext ?_)
  rw [Layout.TilesN.idx_val]
  match a with
  | ⟨0, _⟩ =>
    show Layout.meshLin [2, 2, 4] c.val [2] * 1024 + r.val = 1024 * (place c).val + r.val
    rw [lin_place, Nat.mul_comm]

/-- A device's block of a stack of matrices, cut along the stack: experts `2 z` and `2 z + 1`. -/
theorem stack1_block (v : (⟨3, ![8, 1024, 2048]⟩ : Shape).Idx → α) (j : Fin 2) (k : Fin 1024) (f : Fin 2048) :
    (Layout.blockN ⟨3, ![2, 1024, 2048]⟩ ⟨3, ![8, 1024, 2048]⟩ (Layout.meshBlock [2, 2, 4] ![[2], [], []] c) v) (ix3 j k f)
      = v (ix3 (⟨2 * (place c).val + j.val, by omega⟩ : Fin 8) k f) := by
  rw [Layout.blockN_apply]
  refine congrArg v (funext fun a => Fin.ext ?_)
  rw [Layout.TilesN.idx_val]
  match a with
  | ⟨0, _⟩ =>
    show Layout.meshLin [2, 2, 4] c.val [2] * 2 + j.val = 2 * (place c).val + j.val
    rw [lin_place, Nat.mul_comm]
  | ⟨1, _⟩ => show 0 * 1024 + k.val = k.val; omega
  | ⟨2, _⟩ => show 0 * 2048 + f.val = f.val; omega

/-- The same of the second stack. -/
theorem stack2_block (v : (⟨3, ![8, 2048, 1024]⟩ : Shape).Idx → α) (j : Fin 2) (f : Fin 2048) (q : Fin 1024) :
    (Layout.blockN ⟨3, ![2, 2048, 1024]⟩ ⟨3, ![8, 2048, 1024]⟩ (Layout.meshBlock [2, 2, 4] ![[2], [], []] c) v) (ix3 j f q)
      = v (ix3 (⟨2 * (place c).val + j.val, by omega⟩ : Fin 8) f q) := by
  rw [Layout.blockN_apply]
  refine congrArg v (funext fun a => Fin.ext ?_)
  rw [Layout.TilesN.idx_val]
  match a with
  | ⟨0, _⟩ =>
    show Layout.meshLin [2, 2, 4] c.val [2] * 2 + j.val = 2 * (place c).val + j.val
    rw [lin_place, Nat.mul_comm]
  | ⟨1, _⟩ => show 0 * 2048 + f.val = f.val; omega
  | ⟨2, _⟩ => show 0 * 1024 + q.val = q.val; omega

end

/-- Device `c`'s result is its block of the reference's, the arguments being blocks of the reference's. -/
theorem result_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : ∀ c : Dev Cert.KernelIdeal.nD,
      m ((c.tc : Thread Cert.KernelIdeal.nD Cert.KernelIdeal.τ).loc Cert.KernelIdeal.main_arg0) = Layout.blockN ⟨2, ![1024, 1024]⟩ ⟨2, ![4096, 1024]⟩ (Layout.meshBlock [2, 2, 4] ![[2], []] c) (rows m' 0)
      ∧ m ((c.tc : Thread Cert.KernelIdeal.nD Cert.KernelIdeal.τ).loc Cert.KernelIdeal.main_arg1) = Layout.blockN ⟨1, ![1024]⟩ ⟨1, ![4096]⟩ (Layout.meshBlock [2, 2, 4] ![[2]] c) (assign m' 0)
      ∧ m ((c.tc : Thread Cert.KernelIdeal.nD Cert.KernelIdeal.τ).loc Cert.KernelIdeal.main_arg2) = Layout.blockN ⟨3, ![2, 1024, 2048]⟩ ⟨3, ![8, 1024, 2048]⟩ (Layout.meshBlock [2, 2, 4] ![[2], [], []] c) (stack1 m' 0)
      ∧ m ((c.tc : Thread Cert.KernelIdeal.nD Cert.KernelIdeal.τ).loc Cert.KernelIdeal.main_arg3) = Layout.blockN ⟨3, ![2, 2048, 1024]⟩ ⟨3, ![8, 2048, 1024]⟩ (Layout.meshBlock [2, 2, 4] ![[2], [], []] c) (stack2 m' 0))
    (c : Dev Cert.KernelIdeal.nD) :
    Cert.KernelIdeal.Ring.result m c
      = Layout.blockN ⟨2, ![1024, 1024]⟩ ⟨2, ![4096, 1024]⟩ (Layout.meshBlock [2, 2, 4] ![[2], []] c) (Cert.ReferenceIdeal.Value.res_out0 m' 0) := by
  have hB : Blocks (slabs m) (wts1 m) (wts2 m) (fun i k => rows m' 0 (ix2 i k)) (fun i => assign m' 0 (ix1 i))
      (fun e k f => stack1 m' 0 (ix3 e k f)) (fun e f q => stack2 m' 0 (ix3 e f q)) :=
    { row := fun d r k => (slabs_row m d r k).trans ((congrFun (h d).1 (ix2 r k)).trans (rows_block d _ r k))
      lane := fun d r l => (slabs_lane m d r l).trans (by rw [(h d).2.1, assign_block])
      first := fun d j k f => (congrFun ((wts1_eq m d).trans (h d).2.2.1) (ix3 j k f)).trans (stack1_block d _ j k f)
      second := fun d j f q => (congrFun ((wts2_eq m d).trans (h d).2.2.2) (ix3 j f q)).trans (stack2_block d _ j f q) }
  funext i
  rw [eq_ix2 i]
  refine (outV_apply hB c (i 0) (i 1)).trans ?_
  refine Eq.trans ?_ (rows_block c _ (i 0) (i 1)).symm
  exact (res_apply m' 0 _ _).symm

/-- Both programs run; each device's result is its block of the reference's. -/
theorem algebraic : Cert.algebraic_KernelIdeal_ReferenceIdeal (hKernelIdeal := Cert.KernelIdeal.Gen.facts) (hReferenceIdeal := Cert.ReferenceIdeal.Gen.facts) :=
  fun m g m' g' _ h => ⟨Cert.ReferenceIdeal.Value.res_out0 m' 0,
    (θ_run Cert.KernelIdeal.defs _ _).mono
      (fun _ hr c => ⟨(hr.1 c).2.2.2.2.trans (result_block m m' h c), (hr.1 c).1, (hr.1 c).2.1, (hr.1 c).2.2.1, (hr.1 c).2.2.2.1⟩)
      (Cert.KernelIdeal.Ring.run_main (F := Ideal) m g),
    (θ_run Cert.ReferenceIdeal.defs _ _).mono (fun _ hr => hr 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three frames, the idealization and the value claim, from the modules that prove them. -/
theorem claim : Cert.Claim := ⟨Cert.Kernel.Gen.facts, Cert.KernelIdeal.Gen.facts, Cert.ReferenceIdeal.Gen.facts,
  frame_kernel, frame_ideal, frame_ref, trivial, algebraic⟩

end Cert.Proof

end
